-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v79_0)) (v1 : (c : Dev Cert.Kernel7Ideal.nD) → Buf (Elt Ideal) ((c.tc : Thread Cert.Kernel7Ideal.nD Cert.Kernel7Ideal.τ).loc Cert.Kernel7Ideal.main_v79_1)) (v2 : (c : Dev Cert.Kernel7Ideal.nD) → Buf (Elt Ideal) ((c.tc : Thread Cert.Kernel7Ideal.nD Cert.Kernel7Ideal.τ).loc Cert.Kernel7Ideal.main_v79_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v79_0) = v0 c
          ∧ r.2.mem ((c.tc : Thread Cert.Kernel7Ideal.nD Cert.Kernel7Ideal.τ).loc Cert.Kernel7Ideal.main_v79_1) = v1 c
          ∧ r.2.mem ((c.tc : Thread Cert.Kernel7Ideal.nD Cert.Kernel7Ideal.τ).loc Cert.Kernel7Ideal.main_v79_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v141) = v0 c
          ∧ r.2.mem ((c.tc : Thread Cert.Reference7Ideal.nD Cert.Reference7Ideal.τ).loc Cert.Reference7Ideal.main_v143) = v1 c
          ∧ r.2.mem ((c.tc : Thread Cert.Reference7Ideal.nD Cert.Reference7Ideal.τ).loc Cert.Reference7Ideal.main_v145) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_Kernel_pre_finite (hKernel := hKernel) (hPre_finite := hPre_finite)
    ∧ quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1x8x16384x192 : Shape := ⟨4, ![1, 8, 16384, 192]⟩
abbrev S1x8x16384x128 : Shape := ⟨4, ![1, 8, 16384, 128]⟩
abbrev S_ : Shape := ⟨0, ![]⟩

class Facts : Prop where
  bitsLt_bf16_f32 : FTy.bits .bf16 < FTy.bits .f32
  bcast_S_S1x8x16384x192 : S_.BroadcastsInDim S1x8x16384x192 (![] : Fin 0 → Fin S1x8x16384x192.rank)
  reducesTo_S1x8x16384x192_S_d0_1_2_3 : S1x8x16384x192.ReducesTo [0, 1, 2, 3] S_
  h_S_ : 0 < S_.numel

variable [Facts]

def fn {F : FTy → Type} [FloatOps F] (main_arg0 : FVec F S1x8x16384x192 .bf16) (main_arg1 : FVec F S1x8x16384x192 .bf16) (main_arg2 : FVec F S1x8x16384x128 .bf16) : IVec S_ 1 :=
  let main_v0 : FVec F S1x8x16384x192 .f32 := (extf .f32 · bitsLt_bf16_f32) main_arg0
  let main_v1 : FVec F S1x8x16384x192 .f32 := Host.absf main_v0
  let main_cst : FVec F S_ .f32 := constant S_ .f32 0x7F800000#32
  let main_v2 : FVec F S1x8x16384x192 .f32 := broadcastInDim S1x8x16384x192 ![] bcast_S_S1x8x16384x192 main_cst
  let main_v3 : IVec S1x8x16384x192 1 := cmpf .olt main_v1 main_v2
  let main_c : IVec S_ 1 := constantI S_ 1 1#1
  let main_v4 : IVec S_ 1 := (fun x v => Host.reduce IntOp.andi x v reducesTo_S1x8x16384x192_S_d0_1_2_3 h_S_) main_v3 main_c
  let main_v5 : FVec F S1x8x16384x192 .f32 := (extf .f32 · bitsLt_bf16_f32) main_arg1
  let main_v6 : FVec F S1x8x16384x192 .f32 := Host.absf main_v5
  let main_cst_0 : FVec F S_ .f32 := constant S_ .f32 0x7F800000#32
  let main_v7 : FVec F S1x8x16384x192 .f32 := broadcastInDim S1x8x16384x192 ![] bcast_S_S1x8x16384x192 main_cst_0
  let main_v8 : IVec S1x8x16384x192 1 := cmpf .olt main_v6 main_v7
  let main_c_1 : IVec S_ 1 := constantI S_ 1 1#1
  let main_v9 : IVec S_ 1 := (fun x v => Host.reduce IntOp.andi x v reducesTo_S1x8x16384x192_S_d0_1_2_3 h_S_) main_v8 main_c_1
  let main_v10 : IVec S_ 1 := andi main_v4 main_v9
  main_v10
-- ==== Kernel.lean ====
abbrev S1x8x16384x192 : Shape := ⟨4, ![1, 8, 16384, 192]⟩
abbrev S1x8x16384x128 : Shape := ⟨4, ![1, 8, 16384, 128]⟩
abbrev S_ : Shape := ⟨0, ![]⟩
abbrev S1x8x16384x256 : Shape := ⟨4, ![1, 8, 16384, 256]⟩
abbrev S1x16384x1024 : Shape := ⟨3, ![1, 16384, 1024]⟩
abbrev S1x1x512x192 : Shape := ⟨4, ![1, 1, 512, 192]⟩
abbrev S1x1x16384x192 : Shape := ⟨4, ![1, 1, 16384, 192]⟩
abbrev S1x1x16384x256 : Shape := ⟨4, ![1, 1, 16384, 256]⟩
abbrev S1x512x128 : Shape := ⟨3, ![1, 512, 128]⟩
abbrev S2x512x2048 : Shape := ⟨3, ![2, 512, 2048]⟩
abbrev S2x512x128 : Shape := ⟨3, ![2, 512, 128]⟩
abbrev S512x128 : Shape := ⟨2, ![512, 128]⟩
abbrev S512x256 : Shape := ⟨2, ![512, 256]⟩
abbrev S512x192 : Shape := ⟨2, ![512, 192]⟩
abbrev S1x1x2048x192 : Shape := ⟨4, ![1, 1, 2048, 192]⟩
abbrev S2048x192 : Shape := ⟨2, ![2048, 192]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩
abbrev S1x1x2048x256 : Shape := ⟨4, ![1, 1, 2048, 256]⟩
abbrev S2048x256 : Shape := ⟨2, ![2048, 256]⟩

abbrev nBuf : Space → Nat
  | .hbm => 7
  | .vmem => 13
  | .smem => 0
  | _ => 0

abbrev bufTy : (tb : Table) → Fin (tcTables nBuf tb) → BufTy
  | .hbm, ⟨0, _⟩ => ⟨S1x8x16384x192, .bf16⟩
  | .hbm, ⟨1, _⟩ => ⟨S1x8x16384x192, .bf16⟩
  | .hbm, ⟨2, _⟩ => ⟨S1x8x16384x128, .bf16⟩
  | .hbm, ⟨3, _⟩ => ⟨S_, .bf16⟩
  | .hbm, ⟨4, _⟩ => ⟨S1x8x16384x128, .bf16⟩
  | .hbm, ⟨5, _⟩ => ⟨S1x8x16384x256, .bf16⟩
  | .hbm, ⟨6, _⟩ => ⟨S1x16384x1024, .bf16⟩
  | .local _ .vmem, ⟨0, _⟩ => ⟨S1x1x512x192, .bf16⟩
  | .local _ .vmem, ⟨1, _⟩ => ⟨S1x1x512x192, .bf16⟩
  | .local _ .vmem, ⟨2, _⟩ => ⟨S1x1x16384x192, .bf16⟩
  | .local _ .vmem, ⟨3, _⟩ => ⟨S1x1x16384x192, .bf16⟩
  | .local _ .vmem, ⟨4, _⟩ => ⟨S1x1x16384x256, .bf16⟩
  | .local _ .vmem, ⟨5, _⟩ => ⟨S1x1x16384x256, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x2048, .f32⟩
  | .local _ .vmem, ⟨9, _⟩ => ⟨S2x512x2048, .bf16⟩
  | .local _ .vmem, ⟨10, _⟩ => ⟨S2x512x128, .f32⟩
  | .local _ .vmem, ⟨11, _⟩ => ⟨S512x128, .f32⟩
  | .local _ .vmem, ⟨12, _⟩ => ⟨S512x256, .f32⟩
  | _, _ => ⟨S1x8x16384x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 32], ![false, false, false]⟩

def k0_mult1 : BitVec 32 :=
  let c0_i32 : BitVec 32 := 0#32
  c0_i32
def k0_mult2 : BitVec 32 :=
  let c2048_i32 : BitVec 32 := 2048#32
  c2048_i32
def k0_mult3 : BitVec 32 :=
  let c4096_i32 : BitVec 32 := 4096#32
  c4096_i32
def k0_mult4 : BitVec 32 :=
  let c0_i32_53 : BitVec 32 := 0#32
  c0_i32_53
def k0_mult5 : BitVec 32 :=
  let c6144_i32 : BitVec 32 := 6144#32
  c6144_i32
def k0_mult6 : BitVec 32 :=
  let c2048_i32_89 : BitVec 32 := 2048#32
  c2048_i32_89
def k0_mult7 : BitVec 32 :=
  let c8192_i32 : BitVec 32 := 8192#32
  c8192_i32
def k0_mult8 : BitVec 32 :=
  let c4096_i32_125 : BitVec 32 := 4096#32
  c4096_i32_125
def k0_mult9 : BitVec 32 :=
  let c10240_i32 : BitVec 32 := 10240#32
  c10240_i32
def k0_mult10 : BitVec 32 :=
  let c6144_i32_161 : BitVec 32 := 6144#32
  c6144_i32_161
def k0_mult11 : BitVec 32 :=
  let c12288_i32 : BitVec 32 := 12288#32
  c12288_i32
def k0_mult12 : BitVec 32 :=
  let c8192_i32_197 : BitVec 32 := 8192#32
  c8192_i32_197
def k0_mult13 : BitVec 32 :=
  let c14336_i32 : BitVec 32 := 14336#32
  c14336_i32
def k0_mult14 : BitVec 32 :=
  let c10240_i32_233 : BitVec 32 := 10240#32
  c10240_i32_233
def k0_mult15 : BitVec 32 :=
  let c12288_i32_258 : BitVec 32 := 12288#32
  c12288_i32_258
def k0_mult16 : BitVec 32 :=
  let c14336_i32_285 : BitVec 32 := 14336#32
  c14336_i32_285
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S1x8x16384x192 : Shape := ⟨4, ![1, 8, 16384, 192]⟩
abbrev S1x8x16384x128 : Shape := ⟨4, ![1, 8, 16384, 128]⟩
abbrev S1x8x16384x16384 : Shape := ⟨4, ![1, 8, 16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S1x16384x8x128 : Shape := ⟨4, ![1, 16384, 8, 128]⟩
abbrev S1x16384x1024 : Shape := ⟨3, ![1, 16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x8x16384x192, .bf16⟩
  | .hbm, ⟨1, _⟩ => ⟨S1x8x16384x192, .bf16⟩
  | .hbm, ⟨2, _⟩ => ⟨S1x8x16384x128, .bf16⟩
  | .hbm, ⟨3, _⟩ => ⟨S1x8x16384x192, .f32⟩
  | .hbm, ⟨4, _⟩ => ⟨S1x8x16384x192, .f32⟩
  | .hbm, ⟨5, _⟩ => ⟨S1x8x16384x128, .f32⟩
  | .hbm, ⟨6, _⟩ => ⟨S1x8x16384x16384, .f32⟩
  | .hbm, ⟨7, _⟩ => ⟨S_, .f32⟩
  | .hbm, ⟨8, _⟩ => ⟨S_, .f32⟩
  | .hbm, ⟨9, _⟩ => ⟨S1x8x16384x16384, .f32⟩
  | .hbm, ⟨10, _⟩ => ⟨S1x8x16384x16384, .f32⟩
  | .hbm, ⟨11, _⟩ => ⟨S_, .f32⟩
  | .hbm, ⟨12, _⟩ => ⟨S1x8x16384, .f32⟩
  | .hbm, ⟨13, _⟩ => ⟨S_, .f32⟩
  | .hbm, ⟨14, _⟩ => ⟨S1x8x16384, .f32⟩
  | .hbm, ⟨15, _⟩ => ⟨S1x8x16384, .f32⟩
  | .hbm, ⟨16, _⟩ => ⟨S1x8x16384x1, .f32⟩
  | .hbm, ⟨17, _⟩ => ⟨S1x8x16384x16384, .f32⟩
  | .hbm, ⟨18, _⟩ => ⟨S1x8x16384x16384, .f32⟩
  | .hbm, ⟨19, _⟩ => ⟨S1x8x16384x16384, .f32⟩
  | .hbm, ⟨20, _⟩ => ⟨S_, .f32⟩
  | .hbm, ⟨21, _⟩ => ⟨S1x8x16384, .f32⟩
  | .hbm, ⟨22, _⟩ => ⟨S1x8x16384x1, .f32⟩
  | .hbm, ⟨23, _⟩ => ⟨S1x8x16384x16384, .f32⟩
  | .hbm, ⟨24, _⟩ => ⟨S1x8x16384x16384, .f32⟩
  | .hbm, ⟨25, _⟩ => ⟨S1x8x128x16384, .f32⟩
  | .hbm, ⟨26, _⟩ => ⟨S1x16384x8x128, .f32⟩
  | .hbm, ⟨27, _⟩ => ⟨S1x16384x1024, .f32⟩
  | .hbm, ⟨28, _⟩ => ⟨S1x16384x1024, .bf16⟩
  | _, _ => ⟨S1x8x16384x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S1x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x11264, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S1x2048, .f32⟩
  | .hbm, ⟨5, _⟩ => ⟨S2048x11264, .bf16⟩
  | .hbm, ⟨6, _⟩ => ⟨S5632x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x11264, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x8896 : Shape := ⟨2, ![2048, 8896]⟩
abbrev S1x2048 : Shape := ⟨2, ![1, 2048]⟩
abbrev S2048x4096 : Shape := ⟨2, ![2048, 4096]⟩
abbrev S16384x4096 : Shape := ⟨2, ![16384, 4096]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8896, .f32⟩
  | .hbm, ⟨3, _⟩ => ⟨S1x2048, .f32⟩
  | .hbm, ⟨4, _⟩ => ⟨S2048x4096, .f32⟩
  | .hbm, ⟨5, _⟩ => ⟨S2048x4096, .bf16⟩
  | .hbm, ⟨6, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048 : Shape := ⟨1, ![2048]⟩
abbrev S2048x8896 : Shape := ⟨2, ![2048, 8896]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8896 : Shape := ⟨2, ![16384, 8896]⟩
abbrev S16384x3712 : Shape := ⟨2, ![16384, 3712]⟩
abbrev S16384x1088 : Shape := ⟨2, ![16384, 1088]⟩
abbrev S16384x4096 : Shape := ⟨2, ![16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8896, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8896, .f32⟩
  | .hbm, ⟨20, _⟩ => ⟨S16384x3712, .f32⟩
  | .hbm, ⟨21, _⟩ => ⟨S16384x1088, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x8896 : Shape := ⟨2, ![2048, 8896]⟩
abbrev S1x2048 : Shape := ⟨2, ![1, 2048]⟩
abbrev S2048x3712 : Shape := ⟨2, ![2048, 3712]⟩
abbrev S16384x3712 : Shape := ⟨2, ![16384, 3712]⟩
abbrev S512x2048 : Shape := ⟨2, ![512, 2048]⟩
abbrev S512x3712 : Shape := ⟨2, ![512, 3712]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8896, .f32⟩
  | .hbm, ⟨3, _⟩ => ⟨S1x2048, .f32⟩
  | .hbm, ⟨4, _⟩ => ⟨S2048x3712, .f32⟩
  | .hbm, ⟨5, _⟩ => ⟨S2048x3712, .bf16⟩
  | .hbm, ⟨6, _⟩ => ⟨S16384x3712, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3712, .bf16⟩
  | .local _ .vmem, ⟨4, _⟩ => ⟨S512x3712, .bf16⟩
  | .local _ .vmem, ⟨5, _⟩ => ⟨S512x3712, .bf16⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x3712 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048 : Shape := ⟨1, ![2048]⟩
abbrev S2048x8896 : Shape := ⟨2, ![2048, 8896]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8896 : Shape := ⟨2, ![16384, 8896]⟩
abbrev S16384x3712 : Shape := ⟨2, ![16384, 3712]⟩
abbrev S16384x1088 : Shape := ⟨2, ![16384, 1088]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8896, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8896, .f32⟩
  | .hbm, ⟨20, _⟩ => ⟨S16384x3712, .f32⟩
  | .hbm, ⟨21, _⟩ => ⟨S16384x1088, .f32⟩
  | .hbm, ⟨22, _⟩ => ⟨S16384x4096, .f32⟩
  | .hbm, ⟨23, _⟩ => ⟨S16384x3712, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S16384x2048 : Shape := ⟨2, ![16384, 2048]⟩
abbrev S16384x1024 : Shape := ⟨2, ![16384, 1024]⟩
abbrev S16384x4096 : Shape := ⟨2, ![16384, 4096]⟩
abbrev S1024 : Shape := ⟨1, ![1024]⟩
abbrev S1024x2048 : Shape := ⟨2, ![1024, 2048]⟩
abbrev S2048x2048 : Shape := ⟨2, ![2048, 2048]⟩
abbrev S1x1024 : Shape := ⟨2, ![1, 1024]⟩
abbrev S256x2048 : Shape := ⟨2, ![256, 2048]⟩
abbrev S256x1024 : Shape := ⟨2, ![256, 1024]⟩
abbrev S256x256 : Shape := ⟨2, ![256, 256]⟩

abbrev nBuf : Space → Nat
  | .hbm => 18
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x4096, .bf16⟩
  | .hbm, ⟨7, _⟩ => ⟨S1024, .f32⟩
  | .hbm, ⟨8, _⟩ => ⟨S1024, .f32⟩
  | .hbm, ⟨9, _⟩ => ⟨S1024x2048, .f32⟩
  | .hbm, ⟨10, _⟩ => ⟨S1024x2048, .f32⟩
  | .hbm, ⟨11, _⟩ => ⟨S2048x2048, .f32⟩
  | .hbm, ⟨12, _⟩ => ⟨S1x1024, .f32⟩
  | .hbm, ⟨13, _⟩ => ⟨S1x1024, .f32⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x1024, .f32⟩
  | .local _ .vmem, ⟨17, _⟩ => ⟨S1x1024, .f32⟩
  | .local _ .vmem, ⟨18, _⟩ => ⟨S1024x2048, .bf16⟩
  | .local _ .vmem, ⟨19, _⟩ => ⟨S1024x2048, .bf16⟩
  | .local _ .vmem, ⟨20, _⟩ => ⟨S2048x2048, .bf16⟩
  | .local _ .vmem, ⟨21, _⟩ => ⟨S256x2048, .f32⟩
  | .local _ .vmem, ⟨22, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S16384x2048 : Shape := ⟨2, ![16384, 2048]⟩
abbrev S16384x1024 : Shape := ⟨2, ![16384, 1024]⟩
abbrev S16384x4096 : Shape := ⟨2, ![16384, 4096]⟩
abbrev S1024 : Shape := ⟨1, ![1024]⟩
abbrev S1024x2048 : Shape := ⟨2, ![1024, 2048]⟩
abbrev S2048x2048 : Shape := ⟨2, ![2048, 2048]⟩
abbrev S1x16384x16x64 : Shape := ⟨4, ![1, 16384, 16, 64]⟩
abbrev S_ : Shape := ⟨0, ![]⟩
abbrev S1x16384x16 : Shape := ⟨3, ![1, 16384, 16]⟩
abbrev S1x16384x16x1 : Shape := ⟨4, ![1, 16384, 16, 1]⟩
abbrev S1x16384x1024 : Shape := ⟨3, ![1, 16384, 1024]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x4096, .bf16⟩
  | .hbm, ⟨7, _⟩ => ⟨S1024, .f32⟩
  | .hbm, ⟨8, _⟩ => ⟨S1024, .f32⟩
  | .hbm, ⟨9, _⟩ => ⟨S1024x2048, .f32⟩
  | .hbm, ⟨10, _⟩ => ⟨S1024x2048, .f32⟩
  | .hbm, ⟨11, _⟩ => ⟨S2048x2048, .f32⟩
  | .hbm, ⟨12, _⟩ => ⟨S16384x1024, .f32⟩
  | .hbm, ⟨13, _⟩ => ⟨S1x16384x16x64, .f32⟩
  | .hbm, ⟨14, _⟩ => ⟨S_, .f32⟩
  | .hbm, ⟨15, _⟩ => ⟨S1x16384x16, .f32⟩
  | .hbm, ⟨16, _⟩ => ⟨S1x16384x16x1, .f32⟩
  | .hbm, ⟨17, _⟩ => ⟨S_, .f32⟩
  | .hbm, ⟨18, _⟩ => ⟨S1x16384x16x1, .f32⟩
  | .hbm, ⟨19, _⟩ => ⟨S1x16384x16x1, .f32⟩
  | .hbm, ⟨20, _⟩ => ⟨S1x16384x16x64, .f32⟩
  | .hbm, ⟨21, _⟩ => ⟨S1x16384x16x64, .f32⟩
  | .hbm, ⟨22, _⟩ => ⟨S1x16384x16x64, .f32⟩
  | .hbm, ⟨23, _⟩ => ⟨S_, .f32⟩
  | .hbm, ⟨24, _⟩ => ⟨S1x16384x16, .f32⟩
  | .hbm, ⟨25, _⟩ => ⟨S1x16384x16x1, .f32⟩
  | .hbm, ⟨26, _⟩ => ⟨S_, .f32⟩
  | .hbm, ⟨27, _⟩ => ⟨S1x16384x16x1, .f32⟩
  | .hbm, ⟨28, _⟩ => ⟨S1x16384x16x1, .f32⟩
  | .hbm, ⟨29, _⟩ => ⟨S_, .f32⟩
  | .hbm, ⟨30, _⟩ => ⟨S1x16384x16x1, .f32⟩
  | .hbm, ⟨31, _⟩ => ⟨S1x16384x16x1, .f32⟩
  | .hbm, ⟨32, _⟩ => ⟨S1x16384x16x1, .f32⟩
  | .hbm, ⟨33, _⟩ => ⟨S1x16384x16x64, .f32⟩
  | .hbm, ⟨34, _⟩ => ⟨S1x16384x16x64, .f32⟩
  | .hbm, ⟨35, _⟩ => ⟨S1x16384x1024, .f32⟩
  | .hbm, ⟨36, _⟩ => ⟨S1x1x1024, .f32⟩
  | .hbm, ⟨37, _⟩ => ⟨S1x16384x1024, .f32⟩
  | .hbm, ⟨38, _⟩ => ⟨S1x16384x1024, .f32⟩
  | .hbm, ⟨39, _⟩ => ⟨S1x1x1024, .f32⟩
  | .hbm, ⟨40, _⟩ => ⟨S1x16384x1024, .f32⟩
  | .hbm, ⟨41, _⟩ => ⟨S1x16384x1024, .f32⟩
  | .hbm, ⟨42, _⟩ => ⟨S16384x1024, .f32⟩
  | .hbm, ⟨43, _⟩ => ⟨S1x16384x16x64, .f32⟩
  | .hbm, ⟨44, _⟩ => ⟨S_, .f32⟩
  | .hbm, ⟨45, _⟩ => ⟨S1x16384x16, .f32⟩
  | .hbm, ⟨46, _⟩ => ⟨S1x16384x16x1, .f32⟩
  | .hbm, ⟨47, _⟩ => ⟨S_, .f32⟩
  | .hbm, ⟨48, _⟩ => ⟨S1x16384x16x1, .f32⟩
  | .hbm, ⟨49, _⟩ => ⟨S1x16384x16x1, .f32⟩
  | .hbm, ⟨50, _⟩ => ⟨S1x16384x16x64, .f32⟩
  | .hbm, ⟨51, _⟩ => ⟨S1x16384x16x64, .f32⟩
  | .hbm, ⟨52, _⟩ => ⟨S1x16384x16x64, .f32⟩
  | .hbm, ⟨53, _⟩ => ⟨S_, .f32⟩
  | .hbm, ⟨54, _⟩ => ⟨S1x16384x16, .f32⟩
  | .hbm, ⟨55, _⟩ => ⟨S1x16384x16x1, .f32⟩
  | .hbm, ⟨56, _⟩ => ⟨S_, .f32⟩
  | .hbm, ⟨57, _⟩ => ⟨S1x16384x16x1, .f32⟩
  | .hbm, ⟨58, _⟩ => ⟨S1x16384x16x1, .f32⟩
  | .hbm, ⟨59, _⟩ => ⟨S_, .f32⟩
  | .hbm, ⟨60, _⟩ => ⟨S1x16384x16x1, .f32⟩
  | .hbm, ⟨61, _⟩ => ⟨S1x16384x16x1, .f32⟩
  | .hbm, ⟨62, _⟩ => ⟨S1x16384x16x1, .f32⟩
  | .hbm, ⟨63, _⟩ => ⟨S1x16384x16x64, .f32⟩
  | .hbm, ⟨64, _⟩ => ⟨S1x16384x16x64, .f32⟩
  | .hbm, ⟨65, _⟩ => ⟨S1x16384x1024, .f32⟩
  | .hbm, ⟨66, _⟩ => ⟨S1x1x1024, .f32⟩
  | .hbm, ⟨67, _⟩ => ⟨S1x16384x1024, .f32⟩
  | .hbm, ⟨68, _⟩ => ⟨S1x16384x1024, .f32⟩
  | .hbm, ⟨69, _⟩ => ⟨S1x1x1024, .f32⟩
  | .hbm, ⟨70, _⟩ => ⟨S1x16384x1024, .f32⟩
  | .hbm, ⟨71, _⟩ => ⟨S1x16384x1024, .f32⟩
  | .hbm, ⟨72, _⟩ => ⟨S1x16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x4096, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .f32⟩
  | .hbm, ⟨83, _⟩ => ⟨S16384x1024, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S2048x8896 : Shape := ⟨2, ![2048, 8896]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S2048x1088 : Shape := ⟨2, ![2048, 1088]⟩
abbrev S2048x1024 : Shape := ⟨2, ![2048, 1024]⟩
abbrev S2048x64 : Shape := ⟨2, ![2048, 64]⟩
abbrev S_ : Shape := ⟨0, ![]⟩
abbrev S2048x128 : Shape := ⟨2, ![2048, 128]⟩
abbrev S2048x32 : Shape := ⟨2, ![2048, 32]⟩
abbrev S2048x1280 : Shape := ⟨2, ![2048, 1280]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x8x32 : Shape := ⟨3, ![512, 8, 32]⟩
abbrev S512x8x256 : Shape := ⟨3, ![512, 8, 256]⟩
abbrev S64 : Shape := ⟨1, ![64]⟩
abbrev S128 : Shape := ⟨1, ![128]⟩
abbrev S1x128 : Shape := ⟨2, ![1, 128]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x16384x2048 : Shape := ⟨3, ![1, 16384, 2048]⟩
abbrev S1x2048 : Shape := ⟨2, ![1, 2048]⟩
abbrev S1x512 : Shape := ⟨2, ![1, 512]⟩
abbrev S1x192 : Shape := ⟨2, ![1, 192]⟩
abbrev S1x8x16384x192 : Shape := ⟨4, ![1, 8, 16384, 192]⟩
abbrev S1x8x16384x256 : Shape := ⟨4, ![1, 8, 16384, 256]⟩
abbrev S1x512x2048 : Shape := ⟨3, ![1, 512, 2048]⟩
abbrev S512x128 : Shape := ⟨2, ![512, 128]⟩
abbrev S1x8x512x192 : Shape := ⟨4, ![1, 8, 512, 192]⟩
abbrev S1x8x512x256 : Shape := ⟨4, ![1, 8, 512, 256]⟩
abbrev S512x1 : Shape := ⟨2, ![512, 1]⟩
abbrev S512x1280 : Shape := ⟨2, ![512, 1280]⟩
abbrev S512x512 : Shape := ⟨2, ![512, 512]⟩
abbrev S1x1x512x128 : Shape := ⟨4, ![1, 1, 512, 128]⟩
abbrev S512x64 : Shape := ⟨2, ![512, 64]⟩
abbrev S1x1x512x64 : Shape := ⟨4, ![1, 1, 512, 64]⟩

abbrev nBuf : Space → Nat
  | .hbm => 115
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8896, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S192, .f32⟩
  | .hbm, ⟨8, _⟩ => ⟨S192, .f32⟩
  | .hbm, ⟨9, _⟩ => ⟨S2048x1088, .f32⟩
  | .hbm, ⟨10, _⟩ => ⟨S2048x1024, .f32⟩
  | .hbm, ⟨11, _⟩ => ⟨S2048x64, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x64, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x1280, .f32⟩
  | .hbm, ⟨23, _⟩ => ⟨S2048x1280, .bf16⟩
  | .hbm, ⟨24, _⟩ => ⟨S512x8x192, .f32⟩
  | .hbm, ⟨25, _⟩ => ⟨S512x8x128, .f32⟩
  | .hbm, ⟨26, _⟩ => ⟨S512x1024, .f32⟩
  | .hbm, ⟨27, _⟩ => ⟨S512x1024, .bf16⟩
  | .hbm, ⟨28, _⟩ => ⟨S512x8x64, .f32⟩
  | .hbm, ⟨29, _⟩ => ⟨S512x8x32, .f32⟩
  | .hbm, ⟨30, _⟩ => ⟨S512x8x32, .f32⟩
  | .hbm, ⟨31, _⟩ => ⟨S512x8x64, .f32⟩
  | .hbm, ⟨32, _⟩ => ⟨S_, .i32⟩
  | .hbm, ⟨33, _⟩ => ⟨S_, .f32⟩
  | .hbm, ⟨34, _⟩ => ⟨S512x8x128, .f32⟩
  | .hbm, ⟨35, _⟩ => ⟨S512x1024, .f32⟩
  | .hbm, ⟨36, _⟩ => ⟨S512x1024, .bf16⟩
  | .hbm, ⟨37, _⟩ => ⟨S_, .i32⟩
  | .hbm, ⟨38, _⟩ => ⟨S_, .f32⟩
  | .hbm, ⟨39, _⟩ => ⟨S512x8x128, .f32⟩
  | .hbm, ⟨40, _⟩ => ⟨S512x1024, .f32⟩
  | .hbm, ⟨41, _⟩ => ⟨S512x1024, .bf16⟩
  | .hbm, ⟨42, _⟩ => ⟨S512x8x256, .f32⟩
  | .hbm, ⟨43, _⟩ => ⟨S512x8x128, .f32⟩
  | .hbm, ⟨44, _⟩ => ⟨S512x1024, .f32⟩
  | .hbm, ⟨45, _⟩ => ⟨S512x1024, .bf16⟩
  | .hbm, ⟨46, _⟩ => ⟨S512x8x128, .f32⟩
  | .hbm, ⟨47, _⟩ => ⟨S512x1024, .f32⟩
  | .hbm, ⟨48, _⟩ => ⟨S512x1024, .bf16⟩
  | .hbm, ⟨49, _⟩ => ⟨S64, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S64, .f32⟩
  | .hbm, ⟨55, _⟩ => ⟨S32, .f32⟩
  | .hbm, ⟨56, _⟩ => ⟨S32, .f32⟩
  | .hbm, ⟨57, _⟩ => ⟨S64, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S64, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S64, .f32⟩
  | .hbm, ⟨68, _⟩ => ⟨S32, .f32⟩
  | .hbm, ⟨69, _⟩ => ⟨S32, .f32⟩
  | .hbm, ⟨70, _⟩ => ⟨S64, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S16384, .f32⟩
  | .hbm, ⟨90, _⟩ => ⟨S16384x1, .f32⟩
  | .hbm, ⟨91, _⟩ => ⟨S1x32, .f32⟩
  | .hbm, ⟨92, _⟩ => ⟨S16384x32, .f32⟩
  | .hbm, ⟨93, _⟩ => ⟨S16384x32, .f32⟩
  | .hbm, ⟨94, _⟩ => ⟨S16384x32, .f32⟩
  | .hbm, ⟨95, _⟩ => ⟨S16384x32, .f32⟩
  | .hbm, ⟨96, _⟩ => ⟨S16384x32, .f32⟩
  | .hbm, ⟨97, _⟩ => ⟨S16384x64, .f32⟩
  | .hbm, ⟨98, _⟩ => ⟨S_, .i32⟩
  | .hbm, ⟨99, _⟩ => ⟨S_, .f32⟩
  | .hbm, ⟨100, _⟩ => ⟨S16384x128, .f32⟩
  | .hbm, ⟨101, _⟩ => ⟨S16384x32, .f32⟩
  | .hbm, ⟨102, _⟩ => ⟨S16384x64, .f32⟩
  | .hbm, ⟨103, _⟩ => ⟨S_, .i32⟩
  | .hbm, ⟨104, _⟩ => ⟨S_, .f32⟩
  | .hbm, ⟨105, _⟩ => ⟨S16384x128, .f32⟩
  | .hbm, ⟨106, _⟩ => ⟨S1x16384x2048, .f32⟩
  | .hbm, ⟨107, _⟩ => ⟨S1x2048, .f32⟩
  | .hbm, ⟨108, _⟩ => ⟨S1x512, .f32⟩
  | .hbm, ⟨109, _⟩ => ⟨S1x512, .f32⟩
  | .hbm, ⟨110, _⟩ => ⟨S1x192, .f32⟩
  | .hbm, ⟨111, _⟩ => ⟨S1x192, .f32⟩
  | .hbm, ⟨112, _⟩ => ⟨S1x8x16384x192, .bf16⟩
  | .hbm, ⟨113, _⟩ => ⟨S1x8x16384x192, .bf16⟩
  | .hbm, ⟨114, _⟩ => ⟨S1x8x16384x256, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x1280, .bf16⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x192, .f32⟩
  | .local _ .vmem, ⟨12, _⟩ => ⟨S1x128, .f32⟩
  | .local _ .vmem, ⟨13, _⟩ => ⟨S1x128, .f32⟩
  | .local _ .vmem, ⟨14, _⟩ => ⟨S1x192, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x8x512x192, .bf16⟩
  | .local _ .vmem, ⟨22, _⟩ => ⟨S1x8x512x192, .bf16⟩
  | .local _ .vmem, ⟨23, _⟩ => ⟨S1x8x512x192, .bf16⟩
  | .local _ .vmem, ⟨24, _⟩ => ⟨S1x8x512x192, .bf16⟩
  | .local _ .vmem, ⟨25, _⟩ => ⟨S1x8x512x256, .bf16⟩
  | .local _ .vmem, ⟨26, _⟩ => ⟨S1x8x512x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_call2_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_call3_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_call4_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_call5_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_call6_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_call7_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_10 : Ref sig .tc := ⟨.hbm, 98, rfl⟩
abbrev main_call8_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_call9_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79_0 : Ref sig .tc := ⟨.hbm, 112, rfl⟩
abbrev main_v79_1 : Ref sig .tc := ⟨.hbm, 113, rfl⟩
abbrev main_v79_2 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x8x512x192 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x512x192 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference7Ideal.lean ====
abbrev S16384x2048 : Shape := ⟨2, ![16384, 2048]⟩
abbrev S2048 : Shape := ⟨1, ![2048]⟩
abbrev S2048x8896 : Shape := ⟨2, ![2048, 8896]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8896 : Shape := ⟨2, ![16384, 8896]⟩
abbrev S16384x3712 : Shape := ⟨2, ![16384, 3712]⟩
abbrev S16384x1088 : Shape := ⟨2, ![16384, 1088]⟩
abbrev S16384x4096 : Shape := ⟨2, ![16384, 4096]⟩
abbrev S1x16384x1088 : Shape := ⟨3, ![1, 16384, 1088]⟩
abbrev S1x16384x512 : Shape := ⟨3, ![1, 16384, 512]⟩
abbrev S1x16384x64 : Shape := ⟨3, ![1, 16384, 64]⟩
abbrev S1x16384 : Shape := ⟨2, ![1, 16384]⟩
abbrev S1x16384x1 : Shape := ⟨3, ![1, 16384, 1]⟩
abbrev S1x1x512 : Shape := ⟨3, ![1, 1, 512]⟩
abbrev S1x16384x1536 : Shape := ⟨3, ![1, 16384, 1536]⟩
abbrev S1x16384x8x192 : Shape := ⟨4, ![1, 16384, 8, 192]⟩
abbrev S1x16384x2048 : Shape := ⟨3, ![1, 16384, 2048]⟩
abbrev S1x16384x8x256 : Shape := ⟨4, ![1, 16384, 8, 256]⟩
abbrev S1x16384x8x128 : Shape := ⟨4, ![1, 16384, 8, 128]⟩
abbrev S1x16384x1x64 : Shape := ⟨4, ![1, 16384, 1, 64]⟩
abbrev S1x16384x8x64 : Shape := ⟨4, ![1, 16384, 8, 64]⟩
abbrev S1x16384x8 : Shape := ⟨3, ![1, 16384, 8]⟩
abbrev S1x16384x8x1 : Shape := ⟨4, ![1, 16384, 8, 1]⟩
abbrev S1x1x1x192 : Shape := ⟨4, ![1, 1, 1, 192]⟩
abbrev S32 : Shape := ⟨1, ![32]⟩
abbrev S1x32 : Shape := ⟨2, ![1, 32]⟩
abbrev S16384x32 : Shape := ⟨2, ![16384, 32]⟩
abbrev S1x16384x8x32 : Shape := ⟨4, ![1, 16384, 8, 32]⟩
abbrev S1x16384x1x32 : Shape := ⟨4, ![1, 16384, 1, 32]⟩
abbrev S1x8x16384x192 : Shape := ⟨4, ![1, 8, 16384, 192]⟩
abbrev S1x8x16384x256 : Shape := ⟨4, ![1, 8, 16384, 256]⟩

abbrev nBuf : Space → Nat
  | .hbm => 176
  | .vmem => 0
  | .smem => 0
  | _ => 0

abbrev hbmTy0_0 (i : Nat) : BufTy := match i % 128 with
  | 0 => ⟨S16384x2048, .f32⟩
  | 1 => ⟨S2048, .f32⟩
  | 2 => ⟨S2048x8896, .f32⟩
  | 3 => ⟨S512, .f32⟩
  | 4 => ⟨S512x1536, .f32⟩
  | 5 => ⟨S512, .f32⟩
  | 6 => ⟨S512x2048, .f32⟩
  | 7 => ⟨S192, .f32⟩
  | 8 => ⟨S192, .f32⟩
  | 9 => ⟨S16384x2048, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x2048, .f32⟩
  | 21 => ⟨S16384x2048, .f32⟩
  | 22 => ⟨S1x2048, .f32⟩
  | 23 => ⟨S16384x2048, .f32⟩
  | 24 => ⟨S16384x2048, .f32⟩
  | 25 => ⟨S16384x8896, .f32⟩
  | 26 => ⟨S16384x3712, .f32⟩
  | 27 => ⟨S16384x1088, .f32⟩
  | 28 => ⟨S16384x4096, .f32⟩
  | 29 => ⟨S1x16384x1088, .f32⟩
  | 30 => ⟨S1x16384x512, .f32⟩
  | 31 => ⟨S1x16384x512, .f32⟩
  | 32 => ⟨S1x16384x64, .f32⟩
  | 33 => ⟨S1x16384x512, .f32⟩
  | 34 => ⟨S_, .f32⟩
  | 35 => ⟨S1x16384, .f32⟩
  | 36 => ⟨S1x16384x1, .f32⟩
  | 37 => ⟨S_, .f32⟩
  | 38 => ⟨S1x16384x1, .f32⟩
  | 39 => ⟨S1x16384x1, .f32⟩
  | 40 => ⟨S_, .f32⟩
  | 41 => ⟨S1x16384x1, .f32⟩
  | 42 => ⟨S1x16384x1, .f32⟩
  | 43 => ⟨S1x16384x1, .f32⟩
  | 44 => ⟨S1x16384x512, .f32⟩
  | 45 => ⟨S1x16384x512, .f32⟩
  | 46 => ⟨S1x1x512, .f32⟩
  | 47 => ⟨S1x16384x512, .f32⟩
  | 48 => ⟨S1x16384x512, .f32⟩
  | 49 => ⟨S1x16384x1536, .f32⟩
  | 50 => ⟨S1x16384x8x192, .f32⟩
  | 51 => ⟨S1x16384x512, .f32⟩
  | 52 => ⟨S_, .f32⟩
  | 53 => ⟨S1x16384, .f32⟩
  | 54 => ⟨S1x16384x1, .f32⟩
  | 55 => ⟨S_, .f32⟩
  | 56 => ⟨S1x16384x1, .f32⟩
  | 57 => ⟨S1x16384x1, .f32⟩
  | 58 => ⟨S_, .f32⟩
  | 59 => ⟨S1x16384x1, .f32⟩
  | 60 => ⟨S1x16384x1, .f32⟩
  | 61 => ⟨S1x16384x1, .f32⟩
  | 62 => ⟨S1x16384x512, .f32⟩
  | 63 => ⟨S1x16384x512, .f32⟩
  | 64 => ⟨S1x1x512, .f32⟩
  | 65 => ⟨S1x16384x512, .f32⟩
  | 66 => ⟨S1x16384x512, .f32⟩
  | 67 => ⟨S1x16384x2048, .f32⟩
  | 68 => ⟨S1x16384x8x256, .f32⟩
  | 69 => ⟨S1x16384x8x128, .f32⟩
  | 70 => ⟨S1x16384x8x128, .f32⟩
  | 71 => ⟨S1x16384x1x64, .f32⟩
  | 72 => ⟨S1x16384x8x64, .f32⟩
  | 73 => ⟨S1x16384x8x192, .f32⟩
  | 74 => ⟨S1x16384x8x192, .f32⟩
  | 75 => ⟨S_, .f32⟩
  | 76 => ⟨S1x16384x8, .f32⟩
  | 77 => ⟨S1x16384x8x1, .f32⟩
  | 78 => ⟨S_, .f32⟩
  | 79 => ⟨S1x16384x8x1, .f32⟩
  | 80 => ⟨S1x16384x8x1, .f32⟩
  | 81 => ⟨S_, .f32⟩
  | 82 => ⟨S1x16384x8x1, .f32⟩
  | 83 => ⟨S1x16384x8x1, .f32⟩
  | 84 => ⟨S1x16384x8x1, .f32⟩
  | 85 => ⟨S1x16384x8x192, .f32⟩
  | 86 => ⟨S1x16384x8x192, .f32⟩
  | 87 => ⟨S1x1x1x192, .f32⟩
  | 88 => ⟨S1x16384x8x192, .f32⟩
  | 89 => ⟨S1x16384x8x192, .f32⟩
  | 90 => ⟨S1x16384x8x192, .f32⟩
  | 91 => ⟨S_, .f32⟩
  | 92 => ⟨S1x16384x8, .f32⟩
  | 93 => ⟨S1x16384x8x1, .f32⟩
  | 94 => ⟨S_, .f32⟩
  | 95 => ⟨S1x16384x8x1, .f32⟩
  | 96 => ⟨S1x16384x8x1, .f32⟩
  | 97 => ⟨S_, .f32⟩
  | 98 => ⟨S1x16384x8x1, .f32⟩
  | 99 => ⟨S1x16384x8x1, .f32⟩
  | 100 => ⟨S1x16384x8x1, .f32⟩
  | 101 => ⟨S1x16384x8x192, .f32⟩
  | 102 => ⟨S1x16384x8x192, .f32⟩
  | 103 => ⟨S1x1x1x192, .f32⟩
  | 104 => ⟨S1x16384x8x192, .f32⟩
  | 105 => ⟨S1x16384x8x192, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S16384, .f32⟩
  | 121 => ⟨S16384x1, .f32⟩
  | 122 => ⟨S1x32, .f32⟩
  | 123 => ⟨S16384x32, .f32⟩
  | 124 => ⟨S16384x32, .f32⟩
  | 125 => ⟨S16384x32, .f32⟩
  | 126 => ⟨S16384x32, .f32⟩
  | 127 => ⟨S16384x32, .f32⟩
  | _ => ⟨S16384x2048, .f32⟩

abbrev hbmTy0_1 (i : Nat) : BufTy := match i % 128 with
  | 0 => ⟨S1x16384x8x128, .f32⟩
  | 1 => ⟨S1x16384x8x64, .f32⟩
  | 2 => ⟨S1x16384x8x32, .f32⟩
  | 3 => ⟨S1x16384x8x32, .f32⟩
  | 4 => ⟨S1x16384x1x32, .f32⟩
  | 5 => ⟨S1x16384x1x32, .f32⟩
  | 6 => ⟨S1x16384x8x32, .f32⟩
  | 7 => ⟨S1x16384x8x32, .f32⟩
  | 8 => ⟨S1x16384x8x32, .f32⟩
  | 9 => ⟨S1x16384x8x32, .f32⟩
  | 10 => ⟨S1x16384x8x32, .f32⟩
  | 11 => ⟨S1x16384x8x32, .f32⟩
  | 12 => ⟨S1x16384x8x32, .f32⟩
  | 13 => ⟨S1x16384x8x32, .f32⟩
  | 14 => ⟨S1x16384x8x32, .f32⟩
  | 15 => ⟨S1x16384x8x32, .f32⟩
  | 16 => ⟨S1x16384x8x64, .f32⟩
  | 17 => ⟨S1x16384x8x192, .f32⟩
  | 18 => ⟨S_, .f32⟩
  | 19 => ⟨S1x16384x8x192, .f32⟩
  | 20 => ⟨S1x16384x8x192, .f32⟩
  | 21 => ⟨S1x16384x8x128, .f32⟩
  | 22 => ⟨S1x16384x8x64, .f32⟩
  | 23 => ⟨S1x16384x8x32, .f32⟩
  | 24 => ⟨S1x16384x8x32, .f32⟩
  | 25 => ⟨S1x16384x1x32, .f32⟩
  | 26 => ⟨S1x16384x1x32, .f32⟩
  | 27 => ⟨S1x16384x8x32, .f32⟩
  | 28 => ⟨S1x16384x8x32, .f32⟩
  | 29 => ⟨S1x16384x8x32, .f32⟩
  | 30 => ⟨S1x16384x8x32, .f32⟩
  | 31 => ⟨S1x16384x8x32, .f32⟩
  | 32 => ⟨S1x16384x8x32, .f32⟩
  | 33 => ⟨S1x16384x8x32, .f32⟩
  | 34 => ⟨S1x16384x8x32, .f32⟩
  | 35 => ⟨S1x16384x8x32, .f32⟩
  | 36 => ⟨S1x16384x8x32, .f32⟩
  | 37 => ⟨S1x16384x8x64, .f32⟩
  | 38 => ⟨S1x16384x8x192, .f32⟩
  | 39 => ⟨S_, .f32⟩
  | 40 => ⟨S1x16384x8x128, .f32⟩
  | 41 => ⟨S1x16384x8x256, .f32⟩
  | 42 => ⟨S1x8x16384x192, .f32⟩
  | 43 => ⟨S1x8x16384x192, .bf16⟩
  | 44 => ⟨S1x8x16384x192, .f32⟩
  | 45 => ⟨S1x8x16384x192, .bf16⟩
  | 46 => ⟨S1x8x16384x256, .f32⟩
  | 47 => ⟨S1x8x16384x256, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_18 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_19 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩

abbrev nD : Nat := 1
abbrev τ : Topo := Topo.v7x

variable {F : FTy → Type} [FloatOps F]
-- ==== Proof.Stages.lean ====
/-
  The attention kernel's body as eight equal stages. The printed body names each pure value of each stage apart; here
  one function stands for each kind of value, and what the body leaves in the output block is written with them.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Cert.KernelIdeal.Value Idealize.ShloMosaic Idealize.ShloMosaic.TcCoe
open Idealize.SL.Sem
open Idealize.ShloMosaic.Pipeline (Dat)

/-- Eight blocks of 2048 rows fit in 16384 rows (the keys). -/
theorem inbK (j : Fin 8) : ∀ a : Fin 4, (![0, 0, 2048 * j.val, 0] : Fin 4 → ℕ) a + (![1, 1, 2048, 192] : Fin 4 → ℕ) a ≤ S1x1x16384x192.size a := by
  revert j; decide

/-- Eight blocks of 2048 rows fit in 16384 rows (the values). -/
theorem inbV (j : Fin 8) : ∀ a : Fin 4, (![0, 0, 2048 * j.val, 0] : Fin 4 → ℕ) a + (![1, 1, 2048, 256] : Fin 4 → ℕ) a ≤ S1x1x16384x256.size a := by
  revert j; decide

/-- The `j`-th block of 2048 keys. -/
def kb (X : Vec Ideal S1x1x16384x192 .bf16) (j : ℕ) : Vec Ideal S1x1x2048x192 .bf16 :=
  View.ld (Val := Elt Ideal) (e' := .bf16) X (Rect.unit ![0, 0, 2048 * (Fin.ofNat 8 j).val, 0] ![1, 1, 2048, 192] (inbK (Fin.ofNat 8 j)))

/-- The `j`-th block of 2048 values (with their columns of ones). -/
def vb (X : Vec Ideal S1x1x16384x256 .bf16) (j : ℕ) : Vec Ideal S1x1x2048x256 .bf16 :=
  View.ld (Val := Elt Ideal) (e' := .bf16) X (Rect.unit ![0, 0, 2048 * (Fin.ofNat 8 j).val, 0] ![1, 1, 2048, 256] (inbV (Fin.ofNat 8 j)))

variable (x0 : Vec Ideal S1x1x512x192 .bf16) (x1 : Vec Ideal S1x1x16384x192 .bf16) (x2 : Vec Ideal S1x1x16384x256 .bf16)

/-- The scores of the query block against the `j`-th key block. -/
def sS (j : ℕ) : Vec Ideal S1x512x2048 .f32 := k0_pay9 (F := Ideal) (k0_pay2 (F := Ideal) x0) (kb x1 j)
/-- Their row maxima, along the lanes. -/
def rS (j : ℕ) : Vec Ideal S1x512x128 .f32 := k0_pay10 (F := Ideal) (k0_pay2 (F := Ideal) x0) (kb x1 j)
/-- The running maximum after stage `j`. -/
def mS : ℕ → Vec Ideal S512x128 .f32
  | 0 => k0_pay12 (F := Ideal) (k0_pay3 (F := Ideal)) (rS x0 x1 0)
  | j + 1 => k0_pay12 (F := Ideal) (mS j) (rS x0 x1 (j + 1))
/-- The powers of two of stage `j`, under that stage's running maximum. -/
def pS : ℕ → Vec Ideal S1x512x2048 .bf16
  | 0 => k0_pay13 (F := Ideal) (k0_pay3 (F := Ideal)) (rS x0 x1 0) (sS x0 x1 0)
  | j + 1 => k0_pay13 (F := Ideal) (mS x0 x1 j) (rS x0 x1 (j + 1)) (sS x0 x1 (j + 1))
/-- The accumulator after stage `j`: the products of the stages before it. -/
def aS : ℕ → Vec Ideal S512x256 .f32
  | 0 => k0_pay4 (F := Ideal)
  | j + 1 => k0_pay31 (F := Ideal) (k0_pay27 (F := Ideal) (pS x0 x1 j)) (vb x2 j) (mS x0 x1 j) (rS x0 x1 (j + 1)) (aS j)
/-- What the body leaves: the last product added, its first half divided by its second. -/
def oS : Vec Ideal S1x512x128 .bf16 :=
  k0_pay1 (F := Ideal) (aS x0 x1 x2 7) (k0_pay27 (F := Ideal) (pS x0 x1 7)) (vb x2 7)

section Names

/-! ### The names of the printed body's values, each brought to its stage's function -/

theorem pay6_eq (a b) : k0_pay6 (F := Ideal) a b = k0_pay9 (k0_pay2 a) b := rfl
theorem pay7_eq (a b) : k0_pay7 (F := Ideal) a b = k0_pay10 (k0_pay2 a) b := rfl
theorem pay15_eq (a b) : k0_pay15 (F := Ideal) a b = k0_pay9 a b := rfl
theorem pay16_eq (a b) : k0_pay16 (F := Ideal) a b = k0_pay10 a b := rfl
theorem pay25_eq (a b) : k0_pay25 (F := Ideal) a b = k0_pay9 a b := rfl
theorem pay26_eq (a b) : k0_pay26 (F := Ideal) a b = k0_pay10 a b := rfl
theorem pay34_eq (a b) : k0_pay34 (F := Ideal) a (k0_pay32 b) = k0_pay9 a b := rfl
theorem pay35_eq (a b) : k0_pay35 (F := Ideal) a (k0_pay32 b) = k0_pay10 a b := rfl
theorem pay44_eq (a b) : k0_pay44 (F := Ideal) a b = k0_pay9 a b := rfl
theorem pay45_eq (a b) : k0_pay45 (F := Ideal) a b = k0_pay10 a b := rfl
theorem pay52_eq (a b) : k0_pay52 (F := Ideal) (k0_pay51 a b) = k0_pay9 a b := rfl
theorem pay53_eq (a b) : k0_pay53 (F := Ideal) (k0_pay51 a b) = k0_pay10 a b := rfl
theorem pay62_eq (a b) : k0_pay62 (F := Ideal) a b = k0_pay9 a b := rfl
theorem pay63_eq (a b) : k0_pay63 (F := Ideal) a b = k0_pay10 a b := rfl

theorem pay20_eq (a b) : k0_pay20 (F := Ideal) a b = k0_pay12 a b := rfl
theorem pay29_eq (a b) : k0_pay29 (F := Ideal) a b = k0_pay12 a b := rfl
theorem pay39_eq (a b) : k0_pay39 (F := Ideal) a b = k0_pay12 a b := rfl
theorem pay48_eq (a b) : k0_pay48 (F := Ideal) a b = k0_pay12 a b := rfl
theorem pay57_eq (a b) : k0_pay57 (F := Ideal) a b = k0_pay12 a b := rfl
theorem pay66_eq (a b) : k0_pay66 (F := Ideal) a b = k0_pay12 a b := rfl
theorem pay71_eq (a b) : k0_pay71 (F := Ideal) a b = k0_pay12 a b := rfl

theorem pay22_eq (a b s) : k0_pay22 (F := Ideal) (k0_pay18 a b) (k0_pay21 s) = k0_pay13 a b s := rfl
theorem pay30_eq (a b s) : k0_pay30 (F := Ideal) a b s = k0_pay13 a b s := rfl
theorem pay41_eq (a b s) : k0_pay41 (F := Ideal) (k0_pay40 a b s) = k0_pay13 a b s := rfl
theorem pay49_eq (a b s) : k0_pay49 (F := Ideal) a b s = k0_pay13 a b s := rfl
theorem pay59_eq (a b s) : k0_pay59 (F := Ideal) (k0_pay58 a b s) = k0_pay13 a b s := rfl
theorem pay67_eq (a b s) : k0_pay67 (F := Ideal) a b s = k0_pay13 a b s := rfl
theorem pay72_eq (a b s) : k0_pay72 (F := Ideal) a b s = k0_pay13 a b s := rfl

theorem pay46_eq (p) : k0_pay46 (F := Ideal) p = k0_pay27 p := rfl
theorem pay64_eq (p) : k0_pay64 (F := Ideal) p = k0_pay27 p := rfl
theorem pay69_eq (p) : k0_pay69 (F := Ideal) p = k0_pay27 p := rfl
theorem pay74_eq (p) : k0_pay74 (F := Ideal) p = k0_pay27 p := rfl

theorem pay23_eq (p v a b x) : k0_pay23 (F := Ideal) (k0_pay17 p v) (k0_pay19 a b) x = k0_pay31 (k0_pay27 p) v a b x := rfl
theorem pay42_eq (p v a b x) : k0_pay42 (F := Ideal) (k0_pay36 p v) (k0_pay38 a b) x = k0_pay31 (k0_pay27 p) v a b x := rfl
theorem pay50_eq (p v a b x) : k0_pay50 (F := Ideal) p v a b x = k0_pay31 p v a b x := rfl
theorem pay60_eq (p v a b x) : k0_pay60 (F := Ideal) (k0_pay54 p v) (k0_pay56 a b) x = k0_pay31 (k0_pay27 p) v a b x := rfl
theorem pay68_eq (p v a b x) : k0_pay68 (F := Ideal) p v a b x = k0_pay31 p v a b x := rfl
theorem pay73_eq (p v a b x) : k0_pay73 (F := Ideal) p v a b x = k0_pay31 p v a b x := rfl

end Names

/-- What the body leaves in the output block at grid point `t`, by stages. -/
theorem outs_eq (m : (ℓ : Loc nD τ sig) → Buf (Elt Ideal) ℓ) (c : Dev nD) (t : Fin cfg0.N) :
    outsAt0 (F := Ideal) m c t = oS (iblk m c 0 t) (iblk m c 1 t) (iblk m c 2 t) := by
  unfold outsAt0
  frame_open
  simp (disch := decide) only [↓ View.readCov_skip, ↓ View.readCov_cons_toLoadRect, ↓ View.readCov_fill]
  frame_out
  simp only [pay6_eq, pay7_eq, pay15_eq, pay16_eq, pay25_eq, pay26_eq, pay34_eq, pay35_eq, pay44_eq, pay45_eq, pay52_eq,
    pay53_eq, pay62_eq, pay63_eq, pay20_eq, pay29_eq, pay39_eq, pay48_eq, pay57_eq, pay66_eq, pay71_eq, pay22_eq, pay30_eq,
    pay41_eq, pay49_eq, pay59_eq, pay67_eq, pay72_eq, pay46_eq, pay64_eq, pay69_eq, pay74_eq, pay23_eq, pay42_eq, pay50_eq,
    pay60_eq, pay68_eq, pay73_eq]
  rfl

end Cert.Attn

end
-- ==== Proof.Points.lean ====
/-
  Each kind of value of a stage, read at one row: the scores are sums of products, the running maximum the greater of
  two numbers, the weights powers of two, the accumulator a product of a power of two and a sum.
-/
module

public import proofs.«01_k».proof.Proof.Stages

@[expose] public section

set_option maxRecDepth 16384

noncomputable section

namespace Cert.Attn

open Cert.KernelIdeal Cert.KernelIdeal.Gen Idealize.ShloMosaic Idealize.ShloMosaic.TcCoe
open scoped BigOperators

/-- The f32 pattern of minus infinity is the least extended real. -/
theorem ofBits_neg_inf : Ideal.ofBits .f32 0xFF800000#32 = (⊥ : EReal) := by simp [Ideal.ofBits, Ideal.ieee]

/-- A score: the sum of the products of the query's and the key's entries. -/
theorem pay9_at (q : FVec Ideal S1x1x512x192 .bf16) (kb : FVec Ideal S1x1x2048x192 .bf16) (r : Fin 512) (k : Fin 2048) :
    k0_pay9 (F := Ideal) (k0_pay2 (F := Ideal) q) kb (ix3 0 r k) = ∑ d, q (ix4 0 0 r d) * kb (ix4 0 0 k d) := by
  pointwise [k0_pay9, k0_pay8, k0_pay2]

/-- A row's maximum: the greatest of its scores, the same on every lane. -/
theorem pay10_at (q : FVec Ideal S1x1x512x192 .bf16) (kb : FVec Ideal S1x1x2048x192 .bf16) (r : Fin 512) (l : Fin 128) :
    k0_pay10 (F := Ideal) (k0_pay2 (F := Ideal) q) kb (ix3 0 r l)
      = Finset.fold max (⊥ : EReal) (fun k => ∑ d, q (ix4 0 0 r d) * kb (ix4 0 0 k d)) Finset.univ := by
  pointwise [k0_pay10, k0_pay8, k0_pay2]
  rw [← ofBits_neg_inf]

/-- The new running maximum. -/
theorem pay12_at (a : FVec Ideal S512x128 .f32) (b : FVec Ideal S1x512x128 .f32) (r : Fin 512) (l : Fin 128) :
    k0_pay12 (F := Ideal) a b (ix2 r l) = max (a (ix2 r l)) (b (ix3 0 r l)) := by
  pointwise [k0_pay12, k0_pay11]

/-- The running maximum starts at minus infinity. -/
theorem pay3_at (r : Fin 512) (l : Fin 128) : k0_pay3 (F := Ideal) (ix2 r l) = (⊥ : EReal) := by
  rw [← ofBits_neg_inf]
  pointwise [k0_pay3]

/-- The accumulator starts at zero. -/
theorem pay4_at (r : Fin 512) (l : Fin 256) : k0_pay4 (F := Ideal) (ix2 r l) = (0 : EReal) := by
  pointwise [k0_pay4]

/-- Sixteen copies of a block of 128 lanes side by side, read at a lane: the block at that lane modulo 128. -/
theorem cat16 (x : FVec Ideal S512x128 .f32) (h) (j : S512x2048.Idx) :
    concatenate S512x2048 1 [⟨S512x128, x⟩, ⟨S512x128, x⟩, ⟨S512x128, x⟩, ⟨S512x128, x⟩, ⟨S512x128, x⟩, ⟨S512x128, x⟩,
      ⟨S512x128, x⟩, ⟨S512x128, x⟩, ⟨S512x128, x⟩, ⟨S512x128, x⟩, ⟨S512x128, x⟩, ⟨S512x128, x⟩, ⟨S512x128, x⟩,
      ⟨S512x128, x⟩, ⟨S512x128, x⟩, ⟨S512x128, x⟩] h j = x (ix2 (j 0) ⟨(j 1).val % 128, Nat.mod_lt _ (by decide)⟩) := by
  refine concatenate_replicate_apply (t := S512x2048) (s₁ := S512x128) 1 16 x h rfl j _ ?_ ?_
  · rfl
  · intro b hb
    fin_cases b
    · rfl
    · exact absurd rfl hb

/-- A weight: two to the score less the running maximum. -/
theorem pay13_at (a : FVec Ideal S512x128 .f32) (b : FVec Ideal S1x512x128 .f32) (s : FVec Ideal S1x512x2048 .f32)
    (r : Fin 512) (k : Fin 2048) :
    k0_pay13 (F := Ideal) a b s (ix3 0 r k)
      = Ideal.exp2 (s (ix3 0 r k) - k0_pay12 (F := Ideal) a b (ix2 r ⟨k.val % 128, Nat.mod_lt _ (by decide)⟩)) := by
  have e : k0_pay13 (F := Ideal) a b s = shapeCast S1x512x2048 (truncf .bf16 (exp2 (subf
      (shapeCast S512x2048 s shapeCasts_S1x512x2048_S512x2048)
      (fun j => k0_pay11 (F := Ideal) a b (ix2 (j 0) ⟨(j 1).val % 128, Nat.mod_lt _ (by decide)⟩))))
      bitsLt_bf16_f32) shapeCasts_S512x2048_S1x512x2048 := by
    unfold k0_pay13
    refine congrArg (fun w => shapeCast S1x512x2048 (truncf .bf16 (exp2 (subf
      (shapeCast S512x2048 s shapeCasts_S1x512x2048_S512x2048) w)) bitsLt_bf16_f32) shapeCasts_S512x2048_S1x512x2048) ?_
    funext j
    exact cat16 _ _ _
  rw [e]
  pointwise [k0_pay12, k0_pay11]
  rfl

/-- The new accumulator at a row whose maxima are the same on every lane. -/
theorem pay31_at (p : FVec Ideal S1x512x2048 .bf16) (v : FVec Ideal S1x1x2048x256 .bf16) (a : FVec Ideal S512x128 .f32)
    (b : FVec Ideal S1x512x128 .f32) (s : FVec Ideal S512x256 .f32) (r : Fin 512) (l : Fin 256) (A B : EReal)
    (ha : ∀ l, a (ix2 r l) = A) (hb : ∀ l, k0_pay12 (F := Ideal) a b (ix2 r l) = B) :
    k0_pay31 (F := Ideal) (k0_pay27 (F := Ideal) p) v a b s (ix2 r l)
      = Ideal.exp2 (A - B) * (s (ix2 r l) + ∑ k, p (ix3 0 r k) * v (ix4 0 0 k l)) := by
  have hb' : ∀ l, max A (b (ix3 0 r l)) = B := fun l => by rw [← ha l]; exact (pay12_at a b r l).symm.trans (hb l)
  pointwise [k0_pay27, k0_pay31, k0_pay28]
  simp only [ha, hb', dite_eq_ite, ite_self]
  rfl

/-- The result: the last product added, the first half of the lanes divided by the second. -/
theorem pay1_at (p : FVec Ideal S1x512x2048 .bf16) (v : FVec Ideal S1x1x2048x256 .bf16) (s : FVec Ideal S512x256 .f32)
    (r : Fin 512) (l : Fin 128) :
    k0_pay1 (F := Ideal) s (k0_pay27 (F := Ideal) p) v (ix3 0 r l)
      = Ideal.div (s (ix2 r ⟨l.val, by omega⟩) + ∑ k, p (ix3 0 r k) * v (ix4 0 0 k ⟨l.val, by omega⟩))
        (s (ix2 r ⟨128 + l.val, by omega⟩) + ∑ k, p (ix3 0 r k) * v (ix4 0 0 k ⟨128 + l.val, by omega⟩)) := by
  pointwise [k0_pay27, k0_pay1]

end Cert.Attn

end
-- ==== Proof.Online.lean ====
/-
  The online softmax over the extended reals: a weighted sum kept block by block under a running maximum, and the
  same sum taken at once under any real shift. Nothing here speaks of a program.
-/
module

public import Idealize.ShloMosaic.PureOps.Ideal

@[expose] public section

namespace Cert.Online

open scoped BigOperators

/-- A nonnegative real factor distributes over a finite sum of extended reals. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {κ : Type*} [Fintype κ]

/-- THE ONLINE SUM. Scores `s j k`, a shift `m j` per block, values `v j k` (any extended reals). The accumulator
    starts at zero, and each block adds the sum of the block before it and multiplies by two to the change of the shift;
    with the current block's own sum it is the sum over every block so far, under the current shift. -/
theorem online (s : ℕ → κ → ℝ) (m : ℕ → ℝ) (v : ℕ → κ → EReal) (a : ℕ → EReal) (n : ℕ) (h0 : a 0 = 0)
    (hs : ∀ j < n, a (j + 1) = (((2 : ℝ) ^ (m j - m (j + 1)) : ℝ) : EReal) *
      (a j + ∑ k, (((2 : ℝ) ^ (s j k - m j) : ℝ) : EReal) * v j k)) (j : ℕ) (hj : j ≤ n) :
    a j + ∑ k, (((2 : ℝ) ^ (s j k - m j) : ℝ) : EReal) * v j k
      = ∑ i ∈ Finset.range (j + 1), ∑ k, (((2 : ℝ) ^ (s i k - m j) : ℝ) : EReal) * v i k := by
  induction j with
  | zero => simp [h0]
  | succ j ih =>
    rw [Finset.sum_range_succ, hs j (by omega), ih (by omega)]
    congr 1
    have hc : (0 : ℝ) ≤ (2 : ℝ) ^ (m j - m (j + 1)) := by positivity
    rw [mul_sum _ _ hc]
    refine Finset.sum_congr rfl fun i _ => ?_
    rw [mul_sum _ _ hc]
    refine Finset.sum_congr rfl fun k _ => ?_
    rw [← mul_assoc, ← EReal.coe_mul, ← Real.rpow_add two_pos]
    congr 3
    ring

/-- A quotient of two weighted sums, the second the sum of the weights, is the sum of the weights' own quotients: the
    weights are two to a score less a shift on one side, the exponential of that score's multiple by the logarithm of
    two, less another shift, on the other. -/
theorem softmax {ι : Type*} [Fintype ι] [Nonempty ι] (s : ι → ℝ) (M c : ℝ) (v : ι → EReal) :
    (∑ i, (((2 : ℝ) ^ (s i - M) : ℝ) : EReal) * v i) * (((∑ i, (2 : ℝ) ^ (s i - M))⁻¹ : ℝ) : EReal)
      = ∑ i, ((Real.exp (s i * Real.log 2 - c) * (∑ i, Real.exp (s i * Real.log 2 - c))⁻¹ : ℝ) : EReal) * v i := by
  have hf : ∀ i, Real.exp (s i * Real.log 2 - c) = (2 : ℝ) ^ (s i - M) * Real.exp (M * Real.log 2 - c) := by
    intro i
    rw [Real.rpow_def_of_pos two_pos, ← Real.exp_add]
    congr 1; ring
  have hL : 0 < ∑ i, (2 : ℝ) ^ (s i - M) := Finset.sum_pos (fun i _ => by positivity) Finset.univ_nonempty
  rw [mul_comm, mul_sum _ _ (inv_nonneg.mpr hL.le)]
  refine Finset.sum_congr rfl fun i _ => ?_
  rw [← mul_assoc, ← EReal.coe_mul]
  congr 2
  simp only [hf]
  rw [← Finset.sum_mul, mul_inv]
  have hx : Real.exp (M * Real.log 2 - c) ≠ 0 := (Real.exp_pos _).ne'
  field_simp

end Cert.Online
-- ==== Proof.Rows.lean ====
/-
  One row of a query block through the eight stages, the queries and keys being real numbers: the result is the sum of
  the values under the softmax's weights.
-/
module

public import proofs.«01_k».proof.Proof.Points
public import proofs.«01_k».proof.Proof.Online

@[expose] public section

set_option maxRecDepth 16384

noncomputable section

namespace Cert.Attn

open Cert.KernelIdeal Cert.KernelIdeal.Gen Idealize.ShloMosaic Idealize.ShloMosaic.TcCoe
open scoped BigOperators

theorem coe_max (a b : ℝ) : ((max a b : ℝ) : EReal) = max (a : EReal) b := EReal.coe_strictMono.monotone.map_max

/-- The greatest of finitely many real numbers, at least one, is real. -/
theorem fold_max_real {ι : Type*} (s : Finset ι) (hs : s.Nonempty) (f : ι → ℝ) :
    ∃ ρ : ℝ, Finset.fold max (⊥ : EReal) (fun i => (f i : EReal)) s = ρ := by
  classical
  induction s using Finset.induction_on with
  | empty => exact absurd hs Finset.not_nonempty_empty
  | insert a s ha ih =>
    rw [Finset.fold_insert ha]
    rcases s.eq_empty_or_nonempty with rfl | h
    · exact ⟨f a, by simp⟩
    · obtain ⟨ρ, hρ⟩ := ih h
      exact ⟨max (f a) ρ, by rw [hρ, coe_max]⟩

/-- Row `2048 j + k` of 16384, `j` taken modulo eight. -/
def at8 (j : ℕ) (k : Fin 2048) : Fin 16384 := ⟨2048 * (Fin.ofNat 8 j).val + k.val, by
  have := (Fin.ofNat 8 j).isLt; have := k.isLt; omega⟩

theorem kb_at (X : Vec Ideal S1x1x16384x192 .bf16) (j : ℕ) (k : Fin 2048) (d : Fin 192) :
    kb X j (ix4 0 0 k d) = X (ix4 0 0 (at8 j k) d) := by
  unfold kb View.ld
  refine congrArg X (funext fun a => Fin.ext ?_)
  fin_cases a <;> simp [at8]

theorem vb_at (X : Vec Ideal S1x1x16384x256 .bf16) (j : ℕ) (k : Fin 2048) (l : Fin 256) :
    vb X j (ix4 0 0 k l) = X (ix4 0 0 (at8 j k) l) := by
  unfold vb View.ld
  refine congrArg X (funext fun a => Fin.ext ?_)
  fin_cases a <;> simp [at8]

/-- A sum over the 16384 rows, block by block. -/
theorem sum_blocks (f : Fin 16384 → EReal) :
    ∑ i ∈ Finset.range 8, ∑ k : Fin 2048, f (at8 i k) = ∑ n, f n := by
  rw [Finset.sum_range, Fin.sum_univ_tiles 8 2048 rfl f]
  refine Finset.sum_congr rfl fun j _ => Finset.sum_congr rfl fun k _ => congrArg f (Fin.ext ?_)
  have : (Fin.ofNat 8 j.val).val = j.val := Nat.mod_eq_of_lt j.isLt
  show 2048 * (Fin.ofNat 8 j.val).val + k.val = j.val * 2048 + k.val
  rw [this]; omega

section Row

variable (x0 : Vec Ideal S1x1x512x192 .bf16) (x1 : Vec Ideal S1x1x16384x192 .bf16) (x2 : Vec Ideal S1x1x16384x256 .bf16)
  (r : Fin 512) (q : Fin 192 → ℝ) (κ : Fin 16384 → Fin 192 → ℝ)

/-- The score of the row's query against key `n`. -/
def score (n : Fin 16384) : ℝ := ∑ d, q d * κ n d

variable (hq : ∀ d, x0 (ix4 0 0 r d) = ((q d : ℝ) : EReal)) (hk : ∀ n d, x1 (ix4 0 0 n d) = ((κ n d : ℝ) : EReal))

include hq hk

theorem score_sum (j : ℕ) (k : Fin 2048) :
    ∑ d, x0 (ix4 0 0 r d) * kb x1 j (ix4 0 0 k d) = ((score q κ (at8 j k) : ℝ) : EReal) := by
  unfold score
  rw [Online.coe_sum]
  refine Finset.sum_congr rfl fun d _ => ?_
  rw [kb_at, hq, hk, EReal.coe_mul]

theorem sS_at (j : ℕ) (k : Fin 2048) : sS x0 x1 j (ix3 0 r k) = ((score q κ (at8 j k) : ℝ) : EReal) :=
  (pay9_at x0 (kb x1 j) r k).trans (score_sum x0 x1 r q κ hq hk j k)

theorem rS_real (j : ℕ) : ∃ ρ : ℝ, ∀ l, rS x0 x1 j (ix3 0 r l) = (ρ : EReal) := by
  obtain ⟨ρ, hρ⟩ := fold_max_real Finset.univ Finset.univ_nonempty fun k : Fin 2048 => score q κ (at8 j k)
  refine ⟨ρ, fun l => (pay10_at x0 (kb x1 j) r l).trans ?_⟩
  rw [← hρ]
  exact congrArg (fun f => Finset.fold max (⊥ : EReal) f Finset.univ) (funext fun k => score_sum x0 x1 r q κ hq hk j k)

/-- The running maximum is a real number, the same on every lane. -/
theorem mS_real (j : ℕ) : ∃ μ : ℝ, ∀ l, mS x0 x1 j (ix2 r l) = (μ : EReal) := by
  induction j with
  | zero =>
    obtain ⟨ρ, hρ⟩ := rS_real x0 x1 r q κ hq hk 0
    exact ⟨ρ, fun l => (pay12_at _ _ r l).trans (by rw [pay3_at, hρ]; simp)⟩
  | succ j ih =>
    obtain ⟨ρ, hρ⟩ := rS_real x0 x1 r q κ hq hk (j + 1)
    obtain ⟨μ, hμ⟩ := ih
    exact ⟨max μ ρ, fun l => (pay12_at _ _ r l).trans (by rw [hμ, hρ, coe_max])⟩

/-- A weight of stage `j`, under that stage's running maximum. -/
theorem pS_at (μ : ℕ → ℝ) (hμ : ∀ j l, mS x0 x1 j (ix2 r l) = ((μ j : ℝ) : EReal)) (j : ℕ) (k : Fin 2048) :
    pS x0 x1 j (ix3 0 r k) = (((2 : ℝ) ^ (score q κ (at8 j k) - μ j) : ℝ) : EReal) := by
  have key : ∀ B : EReal, B = ((μ j : ℝ) : EReal) → Ideal.exp2 (sS x0 x1 j (ix3 0 r k) - B)
      = (((2 : ℝ) ^ (score q κ (at8 j k) - μ j) : ℝ) : EReal) := by
    rintro B rfl
    rw [sS_at x0 x1 r q κ hq hk, ← EReal.coe_sub, Ideal.exp2_coe]
    rfl
  cases j with
  | zero => exact (pay13_at _ _ _ r k).trans (key _ (hμ 0 _))
  | succ j => exact (pay13_at _ _ _ r k).trans (key _ (hμ (j + 1) _))

/-- The last accumulator with the last product: the sum over every key, under the last running maximum. -/
theorem total (μ : ℕ → ℝ) (hμ : ∀ j l, mS x0 x1 j (ix2 r l) = ((μ j : ℝ) : EReal)) (l : Fin 256) :
    aS x0 x1 x2 7 (ix2 r l) + ∑ k, pS x0 x1 7 (ix3 0 r k) * vb x2 7 (ix4 0 0 k l)
      = ∑ n, (((2 : ℝ) ^ (score q κ n - μ 7) : ℝ) : EReal) * x2 (ix4 0 0 n l) := by
  have H := Online.online (fun j k => score q κ (at8 j k)) μ (fun j k => x2 (ix4 0 0 (at8 j k) l))
    (fun j => aS x0 x1 x2 j (ix2 r l)) 7 (pay4_at r l) (fun j _ => by
      refine (pay31_at (pS x0 x1 j) (vb x2 j) (mS x0 x1 j) (rS x0 x1 (j + 1)) (aS x0 x1 x2 j) r l _ _ (hμ j)
        (hμ (j + 1))).trans ?_
      rw [← EReal.coe_sub, Ideal.exp2_coe]
      simp only [pS_at x0 x1 r q κ hq hk μ hμ, vb_at]
      rfl) 7 le_rfl
  rw [← sum_blocks fun n => (((2 : ℝ) ^ (score q κ n - μ 7) : ℝ) : EReal) * x2 (ix4 0 0 n l), ← H]
  simp only [pS_at x0 x1 r q κ hq hk μ hμ, vb_at]

/-- THE ROW. The result of the body at a row and lane: the values under the softmax of the scores times the logarithm of
    two, whatever real number is taken off them. -/
theorem oS_at (h1 : ∀ n (l : Fin 128), x2 (ix4 0 0 n ⟨128 + l.val, by omega⟩) = 1) (c : ℝ) (l : Fin 128) :
    oS x0 x1 x2 (ix3 0 r l)
      = ∑ n, ((Real.exp (score q κ n * Real.log 2 - c) * (∑ n, Real.exp (score q κ n * Real.log 2 - c))⁻¹ : ℝ) : EReal)
        * x2 (ix4 0 0 n ⟨l.val, by omega⟩) := by
  choose μ hμ using mS_real x0 x1 r q κ hq hk
  refine (pay1_at (pS x0 x1 7) (vb x2 7) (aS x0 x1 x2 7) r l).trans ?_
  rw [total x0 x1 x2 r q κ hq hk μ hμ, total x0 x1 x2 r q κ hq hk μ hμ]
  have hL : 0 < ∑ n, (2 : ℝ) ^ (score q κ n - μ 7) := Finset.sum_pos (fun i _ => by positivity) Finset.univ_nonempty
  simp only [h1, mul_one]
  rw [← Online.coe_sum, Ideal.div_coe hL.ne', one_div]
  exact Online.softmax (score q κ) (μ 7) c _

end Row

end Cert.Attn

end
-- ==== Proof.Softmax.lean ====
/-
  The reference at an index: the values under the softmax of the scores times the logarithm of two, the queries and keys
  being real numbers.
-/
module

public import proofs.«01_k».proof.Proof.Gen.ReferenceIdeal.Run
public import proofs.«01_k».proof.Proof.Rows

@[expose] public section

set_option maxRecDepth 16384

noncomputable section

namespace Cert.Attn.Plain

open Cert.ReferenceIdeal Cert.ReferenceIdeal.Gen Idealize.ShloMosaic Idealize.ShloMosaic.TcCoe
open scoped BigOperators

variable (q k : FVec Ideal S1x8x16384x192 .bf16) (v : FVec Ideal S1x8x16384x128 .bf16)

/-- The scores times the logarithm of two. -/
def S : FVec Ideal S1x8x16384x16384 .f32 :=
  mulf (Host.dotGeneral dot_S1x8x16384x192_S1x8x16384x192_S1x8x16384x16384_3_3_2_2_01_01 none (extf .f32 q bitsLt_bf16_f32) (extf .f32 k bitsLt_bf16_f32)) (broadcastInDim S1x8x16384x16384 ![] bcast_S_S1x8x16384x16384 (Host.log (constant S_ .f32 0x40000000#32)))

/-- Each row's greatest. -/
def M : FVec Ideal S1x8x16384 .f32 :=
  maximumf (broadcastInDim S1x8x16384 ![] bcast_S_S1x8x16384 (constant S_ .f32 0xFF800000#32)) (Host.reduce FloatOps.maximumf (S q k) (constant S_ .f32 0xFF800000#32) reducesTo_S1x8x16384x16384_S1x8x16384_d3 h_S_)

/-- The exponentials of the scores less their row's greatest. -/
def E : FVec Ideal S1x8x16384x16384 .f32 :=
  Host.exp (subf (S q k) (broadcastInDim S1x8x16384x16384 ![0, 1, 2, 3] bcast_S1x8x16384x1_S1x8x16384x16384_0_1_2_3 (broadcastInDim S1x8x16384x1 ![0, 1, 2] bcast_S1x8x16384_S1x8x16384x1_0_1_2 (M q k))))

/-- Each row's sum of exponentials. -/
def L : FVec Ideal S1x8x16384 .f32 :=
  Host.reduceAdd (E q k) (constant S_ .f32 0x00000000#32) reducesTo_S1x8x16384x16384_S1x8x16384_d3 h_S_

/-- The softmax. -/
def W : FVec Ideal S1x8x16384x16384 .f32 :=
  Host.divf (E q k) (broadcastInDim S1x8x16384x16384 ![0, 1, 2, 3] bcast_S1x8x16384x1_S1x8x16384x16384_0_1_2_3 (broadcastInDim S1x8x16384x1 ![0, 1, 2] bcast_S1x8x16384_S1x8x16384x1_0_1_2 (L q k)))

/-- The reference's result. -/
def REF : FVec Ideal S1x16384x1024 .bf16 :=
  truncf .bf16 (shapeCast _ (transpose S1x16384x8x128 [0, 3, 1, 2] (Host.dotGeneral dot_S1x8x16384x128_S1x8x16384x16384_S1x8x128x16384_2_3_3_2_01_01 none (extf .f32 v bitsLt_bf16_f32) (W q k)) transposes_S1x8x128x16384_S1x16384x8x128_0_3_1_2) shapeCasts_S1x16384x8x128_S1x16384x1024) bitsLt_bf16_f32

theorem two : Ideal.ofBits .f32 0x40000000#32 = ((2 : ℝ) : EReal) := by
  simp [Ideal.ofBits, Ideal.ieee, -EReal.coe_mul]; norm_num

theorem S_at (h : Fin 8) (n j : Fin 16384) :
    S q k (ix4 0 h n j) = (∑ d, q (ix4 0 h n d) * k (ix4 0 h j d)) * ((Real.log 2 : ℝ) : EReal) := by
  unfold S
  pointwise
  simp [two, Ideal.log_coe]

theorem fold_at (x : FVec Ideal S1x8x16384x16384 .f32) (h : Fin 8) (n : Fin 16384) :
    Host.reduce FloatOps.maximumf x (constant S_ .f32 0xFF800000#32) reducesTo_S1x8x16384x16384_S1x8x16384_d3 h_S_ (ix3 0 h n)
      = Finset.fold max (Ideal.ofBits .f32 0xFF800000#32) (fun j => x (ix4 0 h n j)) Finset.univ := by
  pointwise
  done

theorem M_at (h : Fin 8) (n : Fin 16384) :
    M q k (ix3 0 h n) = Finset.fold max (⊥ : EReal) (fun j => S q k (ix4 0 h n j)) Finset.univ := by
  refine (maximumf_apply ..).trans ?_
  rw [fold_at, ofBits_neg_inf]
  show max (Ideal.ofBits .f32 0xFF800000#32) _ = _
  rw [ofBits_neg_inf]
  exact max_eq_right bot_le

theorem E_at (h : Fin 8) (n j : Fin 16384) :
    E q k (ix4 0 h n j) = Ideal.exp (S q k (ix4 0 h n j) - M q k (ix3 0 h n)) := by
  unfold E
  pointwise
  done

theorem L_at (h : Fin 8) (n : Fin 16384) : L q k (ix3 0 h n) = ∑ j, E q k (ix4 0 h n j) := by
  unfold L
  pointwise
  done

theorem W_at (h : Fin 8) (n j : Fin 16384) :
    W q k (ix4 0 h n j) = Ideal.div (E q k (ix4 0 h n j)) (L q k (ix3 0 h n)) := by
  unfold W
  pointwise
  done

theorem REF_at (n : Fin 16384) (e : Fin 1024) :
    REF q k v (ix3 0 n e) = ∑ j, v (ix4 0 ⟨e.val / 128, by omega⟩ j ⟨e.val % 128, by omega⟩)
      * W q k (ix4 0 ⟨e.val / 128, by omega⟩ n j) := by
  unfold REF
  pointwise
  done

/-- Where the head's queries and keys are real: the values under the softmax, some real number taken off the scores. -/
theorem REF_real (n : Fin 16384) (e : Fin 1024) (Q : Fin 192 → ℝ) (K : Fin 16384 → Fin 192 → ℝ)
    (hq : ∀ d, q (ix4 0 ⟨e.val / 128, by omega⟩ n d) = ((Q d : ℝ) : EReal))
    (hk : ∀ j d, k (ix4 0 ⟨e.val / 128, by omega⟩ j d) = ((K j d : ℝ) : EReal)) :
    ∃ c : ℝ, REF q k v (ix3 0 n e)
      = ∑ j, ((Real.exp (score Q K j * Real.log 2 - c) * (∑ j, Real.exp (score Q K j * Real.log 2 - c))⁻¹ : ℝ) : EReal)
        * v (ix4 0 ⟨e.val / 128, by omega⟩ j ⟨e.val % 128, by omega⟩) := by
  have hS : ∀ j, S q k (ix4 0 ⟨e.val / 128, by omega⟩ n j) = ((score Q K j * Real.log 2 : ℝ) : EReal) := fun j => by
    rw [S_at, EReal.coe_mul]
    congr 1
    unfold score
    rw [Online.coe_sum]
    exact Finset.sum_congr rfl fun d _ => by rw [hq, hk, EReal.coe_mul]
  obtain ⟨c, hc⟩ := fold_max_real Finset.univ Finset.univ_nonempty fun j : Fin 16384 => score Q K j * Real.log 2
  have hM : M q k (ix3 0 ⟨e.val / 128, by omega⟩ n) = (c : EReal) := by
    rw [M_at, ← hc]
    exact congrArg (fun f => Finset.fold max (⊥ : EReal) f Finset.univ) (funext hS)
  have hE : ∀ j, E q k (ix4 0 ⟨e.val / 128, by omega⟩ n j) = ((Real.exp (score Q K j * Real.log 2 - c) : ℝ) : EReal) :=
    fun j => by rw [E_at, hS, hM, ← EReal.coe_sub, Ideal.exp_coe]
  have hL : L q k (ix3 0 ⟨e.val / 128, by omega⟩ n) = ((∑ j, Real.exp (score Q K j * Real.log 2 - c) : ℝ) : EReal) := by
    rw [L_at, Online.coe_sum]
    exact Finset.sum_congr rfl fun j _ => hE j
  have h0 : 0 < ∑ j, Real.exp (score Q K j * Real.log 2 - c) :=
    Finset.sum_pos (fun i _ => Real.exp_pos _) Finset.univ_nonempty
  refine ⟨c, (REF_at q k v n e).trans (Finset.sum_congr rfl fun j _ => ?_)⟩
  rw [W_at, hE, hL, Ideal.div_coe h0.ne', ← EReal.coe_mul, one_div, mul_comm]

end Cert.Attn.Plain

end
-- ==== Proof.Final.lean ====
/-
  The kernel's result array is the reference's term of the arguments, where every query and key is finite.
-/
module

public import proofs.«01_k».proof.Defs
public import proofs.«01_k».proof.Proof.Softmax
public import Idealize.ShloMosaic.Lib.ReduceAll

@[expose] public section

set_option maxRecDepth 16384

noncomputable section

namespace Cert.Attn

open Cert.KernelIdeal Cert.KernelIdeal.Gen Idealize.ShloMosaic Idealize.ShloMosaic.TcCoe
open scoped BigOperators

/-! ## The precondition -/

/-- The precondition's side conditions. -/
instance preFacts : Cert.Pre_finite.Facts where
  bitsLt_bf16_f32 := by decide
  bcast_S_S1x8x16384x192 := by decide
  reducesTo_S1x8x16384x192_S_d0_1_2_3 := by decide
  h_S_ := by decide

theorem ofBits_inf : Ideal.ofBits .f32 0x7F800000#32 = (⊤ : EReal) := by
  simp [Ideal.ofBits, Ideal.ieee]

/-- A value whose magnitude lies below infinity is a real number. -/
theorem real_of_abs_lt (x : EReal) (h : max x (-x) < ⊤) : ∃ r : ℝ, x = r := by
  induction x with
  | bot => simp at h
  | coe r => exact ⟨r, rfl⟩
  | top => simp at h

instance : Subsingleton (Cert.Pre_finite.S_).Idx := ⟨fun a b => funext fun d => d.elim0⟩

theorem lt_of_cmp (x : Cert.Pre_finite.S1x8x16384x192.Idx → EReal) (i)
    (h : cmpf (F := Ideal) (φ := .f32) .olt (Host.absf (extf .f32 (φ := .bf16) x (by decide))) (broadcastInDim Cert.Pre_finite.S1x8x16384x192 ![] (by decide)
      (constant Cert.Pre_finite.S_ .f32 0x7F800000#32)) i = 1#1) : ∃ r : ℝ, x i = r := by
  refine real_of_abs_lt _ ?_
  rw [← ofBits_inf]
  have h' : Ideal.cmp .olt (max (x i) (-(x i))) (Ideal.ofBits .f32 0x7F800000#32) = 1#1 := h
  by_contra hn
  simp [Ideal.cmp, hn] at h'

theorem pre_real (q k : FVec Ideal S1x8x16384x192 .bf16) (v : FVec Ideal S1x8x16384x128 .bf16)
    (h : Cert.Pre_finite.fn (F := Ideal) q k v = fun _ => 1#1) : (∀ i, ∃ r : ℝ, q i = r) ∧ ∀ i, ∃ r : ℝ, k i = r := by
  have h0 := congrFun h ix0
  dsimp only [Cert.Pre_finite.fn] at h0
  obtain ⟨hq, hk⟩ := IntOp.andi_eq_one.mp h0
  exact ⟨fun i => lt_of_cmp q i (Host.reduce_andi_all _ _ _ _ _ hq i), fun i => lt_of_cmp k i (Host.reduce_andi_all _ _ _ _ _ hk i)⟩

/-! ## The result array -/

open Idealize.ShloMosaic.Pipeline (Dat)

variable (m : (ℓ : Loc nD τ sig) → Buf (Elt Ideal) ℓ)

/-- Each window's block at a grid point: batch, head and rows. -/
theorem idx : ∀ t : Fin cfg0.N, win0_0.index t = ![0, t.val / 32, t.val % 32, 0] ∧ win0_1.index t = ![0, t.val / 32, 0, 0]
    ∧ win0_2.index t = ![0, t.val / 32, 0, 0] ∧ win0_3.index t = ![0, t.val % 32, t.val / 32] :=
  (by decide +kernel : ∀ t : Fin grid0.N, _)

variable (c : Dev nD) (t : Fin cfg0.N)

theorem t_lt : t.val < 256 := t.isLt

theorem q_at (r : Fin 512) (d : Fin 192) : iblk m c 0 t (ix4 0 0 r d)
    = m ((c : Thread nD τ).loc main_arg0) (ix4 0 ⟨t.val / 32, by have := t_lt t; omega⟩ ⟨512 * (t.val % 32) + r.val, by have := t_lt t; omega⟩ d) := by
  blk_point [iblk, V, idx t]

theorem k_at (n : Fin 16384) (d : Fin 192) : iblk m c 1 t (ix4 0 0 n d)
    = m ((c : Thread nD τ).loc main_arg1) (ix4 0 ⟨t.val / 32, by have := t_lt t; omega⟩ n d) := by
  blk_point [iblk, V, idx t]

/-- The values with the ones beside them, as the kernel's host code lays them. -/
theorem cat_at (n : Fin 16384) (l : Fin 256) : iblk m c 2 t (ix4 0 0 n l)
    = V m c main_v1 (ix4 0 ⟨t.val / 32, by have := t_lt t; omega⟩ n l) := by
  blk_point [iblk, idx t]

theorem v_at (n : Fin 16384) (l : Fin 128) : iblk m c 2 t (ix4 0 0 n ⟨l.val, by omega⟩)
    = m ((c : Thread nD τ).loc main_arg2) (ix4 0 ⟨t.val / 32, by have := t_lt t; omega⟩ n l) := by
  rw [cat_at]
  entry_read
  pointwise
  done

theorem one_at (n : Fin 16384) (l : Fin 128) : iblk m c 2 t (ix4 0 0 n ⟨128 + l.val, by omega⟩) = (1 : EReal) := by
  rw [cat_at]
  entry_read
  pointwise
  done

/-- THE RESULT ARRAY is the reference's term of the arguments. -/
theorem final (hpre : Cert.Pre_finite.fn (F := Ideal) (m ((c : Thread nD τ).loc main_arg0)) (m ((c : Thread nD τ).loc main_arg1))
      (m ((c : Thread nD τ).loc main_arg2)) = fun _ => 1#1) :
    (dats m 0 c).arrAt 3 (cfgs 0).N
      = Plain.REF (m ((c : Thread nD τ).loc main_arg0)) (m ((c : Thread nD τ).loc main_arg1)) (m ((c : Thread nD τ).loc main_arg2)) := by
  obtain ⟨hq, hk⟩ := pre_real _ _ _ hpre
  choose Q hQ using hq
  choose K hK using hk
  refine (dats m 0 c).arrAt_eq_of_covers 3 _ (by decide +kernel) fun t _ y => ?_
  blk_simp
  rw [after0_3, outs_eq]
  obtain ⟨a, r, l, rfl⟩ : ∃ (a : Fin 1) (r : Fin 512) (l : Fin 128), y = ix3 a r l := ⟨y 0, y 1, y 2, by
    funext d; fin_cases d <;> rfl⟩
  obtain rfl : a = 0 := Subsingleton.elim _ _
  have ht := t_lt t
  have he : (win0_3.blk t).view.emb (ix3 0 r l)
      = ix3 0 ⟨512 * (t.val % 32) + r.val, by omega⟩ ⟨128 * (t.val / 32) + l.val, by omega⟩ := by
    blk_ext [idx t]
  rw [he]
  have h1 : (128 * (t.val / 32) + l.val) / 128 = t.val / 32 := by omega
  have h2 : (128 * (t.val / 32) + l.val) % 128 = l.val := by omega
  obtain ⟨x, hx⟩ := Plain.REF_real (m ((c : Thread nD τ).loc main_arg0)) (m ((c : Thread nD τ).loc main_arg1))
    (m ((c : Thread nD τ).loc main_arg2)) ⟨512 * (t.val % 32) + r.val, by omega⟩ ⟨128 * (t.val / 32) + l.val, by omega⟩
    (fun d => Q (ix4 0 ⟨t.val / 32, by omega⟩ ⟨512 * (t.val % 32) + r.val, by omega⟩ d))
    (fun n d => K (ix4 0 ⟨t.val / 32, by omega⟩ n d))
    (fun d => by simp only [h1]; exact hQ _) (fun n d => by simp only [h1]; exact hK _)
  refine Eq.trans ?_ hx.symm
  refine (oS_at _ _ _ r _ _ (fun d => (q_at m c t r d).trans (hQ _)) (fun n d => (k_at m c t n d).trans (hK _))
    (one_at m c t) x l).trans (Finset.sum_congr rfl fun n _ => ?_)
  rw [v_at]
  simp only [h1, h2]

end Cert.Attn

end
-- ==== Proof.Layer.lean ====
/-
  The arithmetic the layer's other calls share: the logistic function written with the hyperbolic tangent, a row
  divided by its root mean square, and one hidden unit of the gated feed-forward layer.
-/
module

public import Idealize.ShloMosaic.PureOps.Ideal
public import Idealize.ShloMosaic.Lib.Pipeline.ValueKit

@[expose] public section

noncomputable section

namespace Cert.Layer

open Idealize.ShloMosaic
open scoped BigOperators

/-- The float words' values: a half, the row's length 2048, and the small number added to the mean square. -/
def half : EReal := Ideal.ofBits .f32 0x3F000000#32
def len : EReal := Ideal.ofBits .f32 0x45000000#32
def eps : EReal := Ideal.ofBits .f32 0x358637BD#32

/-- The logistic function, as the reference writes it. -/
def sig (x : EReal) : EReal := Ideal.div 1 (1 + Ideal.exp (-x))

theorem half_eq : half = ((1 / 2 : ℝ) : EReal) := by
  simp [half, Ideal.ofBits, Ideal.ieee, -EReal.coe_mul]
  norm_num

theorem tanh_half (r : ℝ) : (1 / 2 : ℝ) * Real.tanh (1 / 2 * r) + 1 / 2 = 1 * (1 + Real.exp (-r))⁻¹ := by
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  set a := Real.exp (1 / 2 * r)
  set b := Real.exp (-(1 / 2 * r))
  have hab : a + b ≠ 0 := by positivity
  have hb : 1 + b * b ≠ 0 := by positivity
  field_simp
  linear_combination (2 * b) * h2

/-- The logistic function by the hyperbolic tangent, at every value, the infinite ones included. -/
theorem sig_tanh (x : EReal) : half * Ideal.tanh (half * x) + half = sig x := by
  rw [half_eq]
  induction x with
  | bot =>
    rw [EReal.coe_mul_bot_of_pos (by norm_num)]
    have : ((1 / 2 : ℝ) : EReal) * (-1) + ((1 / 2 : ℝ) : EReal) = ((1 / 2 * (-1) + 1 / 2 : ℝ) : EReal) := by push_cast; rfl
    simp only [Ideal.tanh_bot, this]
    have ht : (1 : EReal) + ⊤ = ⊤ := EReal.coe_add_top 1
    simp [sig, Ideal.div, ht]
  | top =>
    rw [EReal.coe_mul_top_of_pos (by norm_num)]
    have : ((1 / 2 : ℝ) : EReal) * 1 + ((1 / 2 : ℝ) : EReal) = ((1 / 2 * 1 + 1 / 2 : ℝ) : EReal) := by push_cast; rfl
    simp only [Ideal.tanh_top, this]
    simp only [sig, Ideal.div, EReal.neg_top, Ideal.exp_bot, add_zero, one_ne_zero, if_false, inv_one, mul_one]
    norm_num
  | coe r =>
    have hp : (1 + Real.exp (-r)) ≠ 0 := by positivity
    have h1 : (1 : EReal) + Ideal.exp (-(r : EReal)) = ((1 + Real.exp (-r) : ℝ) : EReal) := by
      rw [← EReal.coe_neg, Ideal.exp_coe]; push_cast; rfl
    rw [sig, h1, Ideal.div_coe hp, ← EReal.coe_mul, Ideal.tanh_coe, ← EReal.coe_mul, ← EReal.coe_add, tanh_half]
    rw [one_div, EReal.coe_mul, EReal.coe_one]

/-- One entry of a row divided by its root mean square and scaled. -/
def rms (x g : Fin 2048 → EReal) (d : Fin 2048) : EReal :=
  x d * Ideal.rsqrt (Ideal.div (∑ k, x k * x k) len + eps) * g d

/-- One hidden unit: the gate through `z · sig z`, times the other half's product. -/
def hid (n wg wu : Fin 2048 → EReal) : EReal :=
  (∑ k, n k * wg k) * sig (∑ k, n k * wg k) * ∑ k, n k * wu k

/-- Hidden unit `f` of 5632 of the row `x`: its gate's column is `f`, its other half's column `5632 + f`. -/
def unit (x g : Fin 2048 → EReal) (wi : Fin 2048 → Fin 11264 → EReal) (f : Fin 5632) : EReal :=
  hid (rms x g) (fun k => wi k ⟨f.val, by omega⟩) (fun k => wi k ⟨5632 + f.val, by omega⟩)

/-- One entry of the row `x` after the feed-forward layer's half step; `wo` is the entry's output column. -/
def ffn (x g : Fin 2048 → EReal) (wi : Fin 2048 → Fin 11264 → EReal) (wo : Fin 5632 → EReal) (d : Fin 2048) : EReal :=
  x d + half * ∑ f, unit x g wi f * wo f

/-- Unit `512 j + l` of 5632, `j` taken modulo eleven. -/
def at11 (j : ℕ) (l : Fin 512) : Fin 5632 := ⟨512 * (j % 11) + l.val, by omega⟩

/-- A sum over the 5632 units, block by block. -/
theorem sum_units (f : Fin 5632 → EReal) : ∑ j ∈ Finset.range 11, ∑ l, f (at11 j l) = ∑ n, f n := by
  rw [Finset.sum_range, Fin.sum_univ_tiles 11 512 rfl f]
  refine Finset.sum_congr rfl fun j _ => Finset.sum_congr rfl fun k _ => congrArg f (Fin.ext ?_)
  have : j.val % 11 = j.val := Nat.mod_eq_of_lt j.isLt
  show 512 * (j.val % 11) + k.val = j.val * 512 + k.val
  omega

/-! ## A run of eleven points over one block of rows -/

section Sweep

variable (x : (n : ℕ) → n < 352 → Fin 2048 → EReal) (g : Fin 2048 → EReal) (wi : Fin 2048 → Fin 11264 → EReal)
  (wo : Fin 2048 → Fin 5632 → EReal)

/-- What point `n` adds: its 512 hidden units' share. -/
def part (n : ℕ) (h : n < 352) (d : Fin 2048) : EReal := ∑ l, unit (x n h) g wi (at11 n l) * wo d (at11 n l)

/-- The share of the first `a` blocks of hidden units, for the row of point `n`. -/
def upto (n : ℕ) (h : n < 352) (a : ℕ) (d : Fin 2048) : EReal :=
  ∑ j ∈ Finset.range a, ∑ l, unit (x n h) g wi (at11 j l) * wo d (at11 j l)

variable (hx : ∀ n n' h h', n / 11 = n' / 11 → x n h = x n' h')

include hx in
theorem upto_succ (n n' : ℕ) (h h') (a : ℕ) (d : Fin 2048) (hn : n / 11 = n' / 11) (ha : a = n' % 11) :
    upto x g wi wo n h a d + part x g wi wo n' h' d = upto x g wi wo n' h' (a + 1) d := by
  unfold upto part
  rw [Finset.sum_range_succ, hx n n' h h' hn]
  have : ∀ l, at11 n' l = at11 a l := fun l => Fin.ext (by simp only [at11]; omega)
  simp only [this]

variable (s o : (n : ℕ) → n < 352 → Fin 2048 → EReal)

include hx in
/-- `s` holds the normed row from a run's first point on, and each point but the last adds its share to `o`: after each
    of the first ten points `o` is the share so far. -/
theorem sweep (hA : ∀ n h, n % 11 = 0 → s n h = rms (x n h) g ∧ ∀ d, o n h d = 0 + part x g wi wo n h d)
    (hB : ∀ n h h', ¬ (n + 1) % 11 = 0 → ¬ (n + 1) % 11 = 10 → s n h' = rms (x (n + 1) h) g →
      s (n + 1) h = s n h' ∧ ∀ d, o (n + 1) h d = o n h' d + part x g wi wo (n + 1) h d) :
    ∀ n h, n % 11 < 10 → s n h = rms (x n h) g ∧ ∀ d, o n h d = upto x g wi wo n h (n % 11 + 1) d := by
  have first : ∀ n h, n % 11 = 0 → s n h = rms (x n h) g ∧ ∀ d, o n h d = upto x g wi wo n h (n % 11 + 1) d := by
    intro n h h0
    refine ⟨(hA n h h0).1, fun d => ((hA n h h0).2 d).trans ?_⟩
    rw [h0]
    exact upto_succ x g wi wo hx n n h h 0 d rfl h0.symm
  intro n
  induction n with
  | zero => exact fun h _ => first 0 h rfl
  | succ n ih =>
    intro h hj
    by_cases h0 : (n + 1) % 11 = 0
    · exact first (n + 1) h h0
    · obtain ⟨ih1, ih2⟩ := ih (by omega) (by omega)
      have hd : n / 11 = (n + 1) / 11 := by omega
      have hm : n % 11 + 1 = (n + 1) % 11 := by omega
      rw [hx n (n + 1) (by omega) h hd] at ih1
      obtain ⟨b1, b2⟩ := hB n h (by omega) h0 (by omega) ih1
      refine ⟨b1.trans ih1, fun d => (b2 d).trans ?_⟩
      rw [ih2, ← hm]
      exact upto_succ x g wi wo hx n (n + 1) _ h _ d hd hm

include hx in
/-- The last point's share completes the layer. -/
theorem sweep_last (n : ℕ) (h h') (h1 : (n + 1) % 11 = 10) (d : Fin 2048) :
    x (n + 1) h d + half * (upto x g wi wo n h' (n % 11 + 1) d + part x g wi wo (n + 1) h d)
      = ffn (x (n + 1) h) g wi (wo d) d := by
  rw [upto_succ x g wi wo hx n (n + 1) h' h (n % 11 + 1) d (by omega) (by omega)]
  have : n % 11 + 1 + 1 = 11 := by omega
  rw [this, upto, sum_units (fun f => unit (x (n + 1) h) g wi f * wo d f)]
  rfl

end Sweep

end Cert.Layer

end
-- ==== Proof.Ffn1.lean ====
/-
  The feed-forward call without the closing norm: what each grid point's payloads hold, entry by entry.
-/
module

public import proofs.«01_k».proof.Proof.Gen.Kernel3Ideal.Value
public import proofs.«01_k».proof.Proof.Layer
public import Idealize.ShloMosaic.Lib.Pipeline.ValueKit
public import Idealize.ShloMosaic.Lib.Pipeline.ReadBack

@[expose] public section

set_option maxRecDepth 16384

noncomputable section

namespace Cert.Ffn1

open Cert.Kernel3Ideal Cert.Kernel3Ideal.Gen Idealize.ShloMosaic Idealize.ShloMosaic.TcCoe Cert.Layer
open scoped BigOperators

theorem norm_at (x : Vec Ideal S512x2048 .f32) (g : Vec Ideal S1x2048 .f32) (r : Fin 512) (d : Fin 2048) :
    k0_pay1 (F := Ideal) x g (ix2 r d) = rms (fun k => x (ix2 r k)) (fun k => g (ix2 0 k)) d := by
  pointwise [k0_pay1]
  rfl

theorem zero_at (r : Fin 512) (d : Fin 2048) : k0_pay2 (F := Ideal) (ix2 r d) = (0 : EReal) := by
  pointwise [k0_pay2]

theorem step_at (n : Vec Ideal S512x2048 .bf16) (wg wu : Vec Ideal S2048x512 .bf16) (acc : Vec Ideal S512x2048 .f32)
    (wo : Vec Ideal S512x2048 .bf16) (r : Fin 512) (d : Fin 2048) :
    k0_pay3 (F := Ideal) n wg wu acc wo (ix2 r d) = acc (ix2 r d)
      + ∑ l : Fin 512, hid (fun k => n (ix2 r k)) (fun k => wg (ix2 k l)) (fun k => wu (ix2 k l)) * wo (ix2 l d) := by
  pointwise [k0_pay3]
  simp only [hid, ← sig_tanh]
  rfl

theorem close_at (x o : Vec Ideal S512x2048 .f32) (r : Fin 512) (d : Fin 2048) :
    k0_pay4 (F := Ideal) x o (ix2 r d) = x (ix2 r d) + half * o (ix2 r d) := by
  pointwise [k0_pay4]
  rfl

variable (m : (ℓ : Loc nD τ sig) → Buf (Elt Ideal) ℓ) (c : Dev nD)

/-- The first point of a run of eleven. -/
theorem outs_A (t : Fin cfg0.N) (h0 : t.val % 11 = 0) : outsAt0 (F := Ideal) m c t.val t.isLt
    = (k0_pay3 (k0_pay1 (iblk m c 0 t) (iblk m c 1 t)) (iblk m c 2 t) (iblk m c 3 t) (k0_pay2 (F := Ideal)) (iblk m c 4 t),
      k0_pay1 (iblk m c 0 t) (iblk m c 1 t)) := by
  rw [outsAt0_A m c t h0 (by omega)]
  frame_open
  simp (disch := decide) only [↓ View.readCov_skip, ↓ View.readCov_cons_toLoadRect, ↓ View.readCov_fill]
  frame_out

/-- A point within a run. -/
theorem outs_B (t : Fin cfg0.N) (h0 : ¬ t.val % 11 = 0) (h1 : ¬ t.val % 11 = 10) (p : ℕ) (hp : p < cfg0.N) (hpt : p + 1 = t.val) :
    outsAt0 (F := Ideal) m c t.val t.isLt
    = (k0_pay3 (outsAt0 m c p hp).2 (iblk m c 2 t) (iblk m c 3 t) (outsAt0 m c p hp).1 (iblk m c 4 t),
      (outsAt0 m c p hp).2) := by
  obtain rfl : p = t.val - 1 := by omega
  rw [outsAt0_B m c t h0 h1]
  frame_open
  simp (disch := decide) only [↓ View.readCov_skip, ↓ View.readCov_cons_toLoadRect, ↓ View.readCov_fill]
  frame_out
  rw [read_unread_whole]
  try rfl

/-- The last point of a run. -/
theorem outs_C (t : Fin cfg0.N) (h1 : t.val % 11 = 10) (p : ℕ) (hp : p < cfg0.N) (hpt : p + 1 = t.val) :
    (outsAt0 (F := Ideal) m c t.val t.isLt).1
    = k0_pay4 (iblk m c 0 t) (k0_pay3 (outsAt0 m c p hp).2 (iblk m c 2 t) (iblk m c 3 t)
      (outsAt0 m c p hp).1 (iblk m c 4 t)) := by
  obtain rfl : p = t.val - 1 := by omega
  rw [outsAt0_C m c t (by omega) h1]
  frame_open
  simp (disch := decide) only [↓ View.readCov_skip, ↓ View.readCov_cons_toLoadRect, ↓ View.readCov_fill]
  frame_out
  rw [read_unread_whole]
  try rfl

/-! ## The blocks -/

/-- Each window's block at a grid point. -/
theorem idx : ∀ t : Fin cfg0.N, win0_0.index t = ![t.val / 11, 0] ∧ win0_1.index t = ![0, 0]
    ∧ win0_2.index t = ![0, t.val % 11] ∧ win0_3.index t = ![0, t.val % 11 + 11] ∧ win0_4.index t = ![t.val % 11, 0]
    ∧ win0_5.index t = ![t.val / 11, 0] :=
  (by decide +kernel : ∀ t : Fin grid0.N, _)

theorem t_lt (t : Fin cfg0.N) : t.val < 352 := t.isLt

/-- The arguments. -/
def X : Fin 16384 → Fin 2048 → EReal := fun R k => m ((c : Thread nD τ).loc main_arg0) (ix2 R k)
def G : Fin 2048 → EReal := fun k => m ((c : Thread nD τ).loc main_arg1) (ix1 k)
def WI : Fin 2048 → Fin 11264 → EReal := fun k f => m ((c : Thread nD τ).loc main_arg2) (ix2 k f)
def WO : Fin 2048 → Fin 5632 → EReal := fun d f => m ((c : Thread nD τ).loc main_arg3) (ix2 f d)

/-- Row `r` of the block of rows of point `t`. -/
def row (t : Fin cfg0.N) (r : Fin 512) : Fin 16384 := ⟨512 * (t.val / 11) + r.val, by have := t_lt t; omega⟩

theorem x_at (t : Fin cfg0.N) (r : Fin 512) (k : Fin 2048) : iblk m c 0 t (ix2 r k) = X m c (row t r) k := by
  unfold X row
  blk_point [iblk, V, idx t]

theorem g_at (t : Fin cfg0.N) (k : Fin 2048) : iblk m c 1 t (ix2 0 k) = G m c k := by
  have h : iblk m c 1 t (ix2 0 k) = V m c main_v0 (ix2 0 k) := by
    blk_point [iblk, idx t]
  rw [h]
  unfold G
  entry_read
  pointwise
  done

theorem wg_at (t : Fin cfg0.N) (k : Fin 2048) (l : Fin 512) :
    iblk m c 2 t (ix2 k l) = WI m c k ⟨(at11 t.val l).val, by omega⟩ := by
  have h : iblk m c 2 t (ix2 k l) = V m c main_v1 (ix2 k ⟨(at11 t.val l).val, by omega⟩) := by
    unfold at11
    blk_point [iblk, idx t]
  rw [h]
  unfold WI
  entry_read
  pointwise
  done

theorem wu_at (t : Fin cfg0.N) (k : Fin 2048) (l : Fin 512) :
    iblk m c 3 t (ix2 k l) = WI m c k ⟨5632 + (at11 t.val l).val, by omega⟩ := by
  have h : iblk m c 3 t (ix2 k l) = V m c main_v1 (ix2 k ⟨5632 + (at11 t.val l).val, by omega⟩) := by
    unfold at11
    blk_point [iblk, idx t]
  rw [h]
  unfold WI
  entry_read
  pointwise
  done

theorem wo_at (t : Fin cfg0.N) (l : Fin 512) (d : Fin 2048) : iblk m c 4 t (ix2 l d) = WO m c d (at11 t.val l) := by
  have h : iblk m c 4 t (ix2 l d) = V m c main_v2 (ix2 (at11 t.val l) d) := by
    unfold at11
    blk_point [iblk, idx t]
  rw [h]
  unfold WO
  entry_read
  pointwise
  done

/-! ## The run of eleven points -/

/-- The row of point `n`'s block, and that points of one run have one row. -/
def xrow (r : Fin 512) (n : ℕ) (h : n < 352) : Fin 2048 → EReal := X m c (row ⟨n, h⟩ r)

theorem xrow_eq (r : Fin 512) (n n' : ℕ) (h h') (hn : n / 11 = n' / 11) : xrow m c r n h = xrow m c r n' h' :=
  congrArg (X m c) (Fin.ext (by simp only [row, hn]))

theorem norm_blk (n : ℕ) (h : n < 352) (r : Fin 512) (d : Fin 2048) :
    k0_pay1 (F := Ideal) (iblk m c 0 ⟨n, h⟩) (iblk m c 1 ⟨n, h⟩) (ix2 r d) = rms (xrow m c r n h) (G m c) d := by
  rw [norm_at]
  simp only [x_at, g_at]
  rfl

theorem step_blk (n : ℕ) (h : n < 352) (s : Vec Ideal S512x2048 .bf16) (acc : Vec Ideal S512x2048 .f32) (r : Fin 512) (d : Fin 2048)
    (hs : (fun k => s (ix2 r k)) = rms (xrow m c r n h) (G m c)) :
    k0_pay3 (F := Ideal) s (iblk m c 2 ⟨n, h⟩) (iblk m c 3 ⟨n, h⟩) acc (iblk m c 4 ⟨n, h⟩) (ix2 r d)
      = acc (ix2 r d) + part (xrow m c r) (G m c) (WI m c) (WO m c) n h d := by
  rw [step_at]
  simp only [hs, wg_at, wu_at, wo_at]
  rfl

/-- The run's points, by the shared sweep. -/
theorem run_at (r : Fin 512) (n : ℕ) (h : n < 352) (hn : n % 11 < 10) :
    (fun k => (outsAt0 (F := Ideal) m c n h).2 (ix2 r k)) = rms (xrow m c r n h) (G m c)
    ∧ ∀ d, (outsAt0 (F := Ideal) m c n h).1 (ix2 r d) = upto (xrow m c r) (G m c) (WI m c) (WO m c) n h (n % 11 + 1) d := by
  refine sweep (xrow m c r) (G m c) (WI m c) (WO m c) (xrow_eq m c r)
    (fun n h k => (outsAt0 (F := Ideal) m c n h).2 (ix2 r k)) (fun n h k => (outsAt0 (F := Ideal) m c n h).1 (ix2 r k))
    (fun n h h0 => by
      have hA := outs_A m c ⟨n, h⟩ h0
      dsimp only at hA
      rw [hA]
      have hs := funext fun k => norm_blk m c n h r k
      exact ⟨hs, fun d => (step_blk m c n h _ _ r d hs).trans (by rw [zero_at])⟩)
    (fun n h h' h0 h1 hs => by
      have hB := outs_B m c ⟨n + 1, h⟩ h0 h1 n h' rfl
      dsimp only at hB
      rw [hB]
      exact ⟨rfl, fun d => step_blk m c (n + 1) h _ _ r d hs⟩) n h hn

/-- What a run's last point leaves: the rows after the half step. -/
theorem last_at (t : Fin cfg0.N) (h1 : t.val % 11 = 10) (r : Fin 512) (d : Fin 2048) :
    (outsAt0 (F := Ideal) m c t.val t.isLt).1 (ix2 r d) = ffn (X m c (row t r)) (G m c) (WI m c) (WO m c d) d := by
  obtain ⟨n, hn⟩ := t
  cases n with
  | zero => exact absurd h1 (by show ¬ 0 % 11 = 10; decide)
  | succ n =>
    have h1' : (n + 1) % 11 = 10 := h1
    have hN : n + 1 < 352 := hn
    obtain ⟨ih1, ih2⟩ := run_at m c r n (by omega) (by omega)
    rw [xrow_eq m c r n (n + 1) (by omega) hn (by omega)] at ih1
    rw [outs_C m c ⟨n + 1, hn⟩ h1 n (by show _ < 352; omega) rfl, close_at, step_blk m c (n + 1) hn _ _ r d ih1, ih2, x_at]
    exact sweep_last (xrow m c r) (G m c) (WI m c) (WO m c) (xrow_eq m c r) n hn (by omega) h1' d

end Cert.Ffn1

end
-- ==== Proof.Ffn1Ref.lean ====
/-
  The feed-forward call's reference at an index, and the kernel's result array against it.
-/
module

public import proofs.«01_k».proof.Proof.Gen.Reference3Ideal.Run
public import proofs.«01_k».proof.Proof.Ffn1

@[expose] public section

set_option maxRecDepth 16384

noncomputable section

namespace Cert.Ffn1.Plain

open Cert.Reference3Ideal Cert.Reference3Ideal.Gen Idealize.ShloMosaic Idealize.ShloMosaic.TcCoe Cert.Layer
open scoped BigOperators

variable (x : FVec Ideal S16384x2048 .f32) (g : FVec Ideal S2048 .f32) (wi : FVec Ideal S2048x11264 .f32)
  (wo : FVec Ideal S5632x2048 .f32)

/-- The rows divided by their root mean square and scaled. -/
def N : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- Both halves of the hidden layer. -/
def H : FVec Ideal S16384x11264 .f32 :=
  Host.dotGeneral dot_S16384x2048_S2048x11264_S16384x11264_1_0_0_1_n_n none (N x g) wi

/-- The gate's half. -/
def A : FVec Ideal S16384x5632 .f32 := extractStridedSlice S16384x5632 ![0, 0] (H x g wi) slices_S16384x11264_S16384x5632_0_0

/-- The hidden units. -/
def U : FVec Ideal S16384x5632 .f32 :=
  mulf (mulf (A x g wi) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (A x g wi)))))) (extractStridedSlice S16384x5632 ![0, 5632] (H x g wi) slices_S16384x11264_S16384x5632_0_5632)

/-- The rows after the half step. -/
def REF : FVec Ideal S16384x2048 .f32 :=
  addf x (mulf (broadcastInDim S16384x2048 ![] bcast_S_S16384x2048 (constant S_ .f32 0x3F000000#32)) (Host.dotGeneral dot_S16384x5632_S5632x2048_S16384x2048_1_0_0_1_n_n none (U x g wi) wo))

theorem N_at (R : Fin 16384) (d : Fin 2048) : N x g (ix2 R d) = rms (fun k => x (ix2 R k)) (fun k => g (ix1 k)) d := by
  unfold N
  pointwise
  rfl

theorem H_at (R : Fin 16384) (f : Fin 11264) :
    H x g wi (ix2 R f) = ∑ k, rms (fun k => x (ix2 R k)) (fun k => g (ix1 k)) k * wi (ix2 k f) := by
  unfold H
  pointwise
  simp only [N_at]

theorem A_at (R : Fin 16384) (f : Fin 5632) : A x g wi (ix2 R f) = H x g wi (ix2 R ⟨f.val, by omega⟩) := by
  unfold A
  pointwise
  done

theorem U_at (R : Fin 16384) (f : Fin 5632) :
    U x g wi (ix2 R f) = unit (fun k => x (ix2 R k)) (fun k => g (ix1 k)) (fun k f => wi (ix2 k f)) f := by
  unfold U
  pointwise
  simp only [A_at, H_at]
  rfl

theorem REF_at (R : Fin 16384) (d : Fin 2048) : REF x g wi wo (ix2 R d)
    = ffn (fun k => x (ix2 R k)) (fun k => g (ix1 k)) (fun k f => wi (ix2 k f)) (fun f => wo (ix2 f d)) d := by
  unfold REF
  pointwise
  simp only [U_at]
  rfl

end Cert.Ffn1.Plain

namespace Cert.Ffn1

open Cert.Kernel3Ideal Cert.Kernel3Ideal.Gen Idealize.ShloMosaic Idealize.ShloMosaic.TcCoe Cert.Layer
open Idealize.ShloMosaic.Pipeline (Dat)

variable (m : (ℓ : Loc nD τ sig) → Buf (Elt Ideal) ℓ) (c : Dev nD)

/-- THE RESULT ARRAY is the reference's term of the arguments. -/
theorem final : (dats m 0 c).arrAt 5 (cfgs 0).N
      = Plain.REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  obtain ⟨r, d, rfl⟩ : ∃ (r : Fin 512) (d : Fin 2048), y = ix2 r d := ⟨y 0, y 1, by funext d; fin_cases d <;> rfl⟩
  have he : (win0_5.blk t).view.emb (ix2 r d) = ix2 (row t r) d := by
    unfold row
    blk_ext [idx t]
  rw [he, Plain.REF_at, last_at m c t ((flush0_5 t).mp hf)]
  rfl

end Cert.Ffn1

end
-- ==== Proof.Ffn2.lean ====
/-
  The feed-forward call with the closing norm: its points, as the call without it takes them, and the closing norm.
-/
module

public import proofs.«01_k».proof.Proof.Gen.Kernel2Ideal.Value
public import proofs.«01_k».proof.Proof.Ffn1
public import Idealize.ShloMosaic.Lib.Pipeline.ValueKit
public import Idealize.ShloMosaic.Lib.Pipeline.ReadBack

@[expose] public section

set_option maxRecDepth 16384

noncomputable section

namespace Cert.Ffn2

open Cert.Kernel2Ideal Cert.Kernel2Ideal.Gen Idealize.ShloMosaic Idealize.ShloMosaic.TcCoe Cert.Layer
open scoped BigOperators

/-- The payloads the two calls share. -/
theorem norm_at (x : Vec Ideal S512x2048 .f32) (g : Vec Ideal S1x2048 .f32) (r : Fin 512) (d : Fin 2048) :
    k0_pay1 (F := Ideal) x g (ix2 r d) = rms (fun k => x (ix2 r k)) (fun k => g (ix2 0 k)) d := Ffn1.norm_at x g r d

theorem zero_at (r : Fin 512) (d : Fin 2048) : k0_pay2 (F := Ideal) (ix2 r d) = (0 : EReal) := Ffn1.zero_at r d

theorem step_at (n : Vec Ideal S512x2048 .bf16) (wg wu : Vec Ideal S2048x512 .bf16) (acc : Vec Ideal S512x2048 .f32)
    (wo : Vec Ideal S512x2048 .bf16) (r : Fin 512) (d : Fin 2048) :
    k0_pay3 (F := Ideal) n wg wu acc wo (ix2 r d) = acc (ix2 r d)
      + ∑ l : Fin 512, hid (fun k => n (ix2 r k)) (fun k => wg (ix2 k l)) (fun k => wu (ix2 k l)) * wo (ix2 l d) :=
  Ffn1.step_at n wg wu acc wo r d

/-- The closing payload: the half step, and its row divided by its root mean square. -/
theorem close_at (x o : Vec Ideal S512x2048 .f32) (gf : Vec Ideal S1x2048 .f32) (r : Fin 512) (d : Fin 2048) :
    k0_pay4 (F := Ideal) x o gf (ix2 r d) = rms (fun k => x (ix2 r k) + half * o (ix2 r k)) (fun k => gf (ix2 0 k)) d := by
  pointwise [k0_pay4]
  rfl

variable (m : (ℓ : Loc nD τ sig) → Buf (Elt Ideal) ℓ) (c : Dev nD)

/-- The first point of a run of eleven. -/
theorem outs_A (t : Fin cfg0.N) (h0 : t.val % 11 = 0) : outsAt0 (F := Ideal) m c t.val t.isLt
    = (k0_pay3 (k0_pay1 (iblk m c 0 t) (iblk m c 1 t)) (iblk m c 2 t) (iblk m c 3 t) (k0_pay2 (F := Ideal)) (iblk m c 4 t),
      k0_pay1 (iblk m c 0 t) (iblk m c 1 t)) := by
  rw [outsAt0_A m c t h0 (by omega)]
  frame_open
  simp (disch := decide) only [↓ View.readCov_skip, ↓ View.readCov_cons_toLoadRect, ↓ View.readCov_fill]
  frame_out

/-- A point within a run. -/
theorem outs_B (t : Fin cfg0.N) (h0 : ¬ t.val % 11 = 0) (h1 : ¬ t.val % 11 = 10) (p : ℕ) (hp : p < cfg0.N) (hpt : p + 1 = t.val) :
    outsAt0 (F := Ideal) m c t.val t.isLt
    = (k0_pay3 (outsAt0 m c p hp).2 (iblk m c 2 t) (iblk m c 3 t) (outsAt0 m c p hp).1 (iblk m c 4 t),
      (outsAt0 m c p hp).2) := by
  obtain rfl : p = t.val - 1 := by omega
  rw [outsAt0_B m c t h0 h1]
  frame_open
  simp (disch := decide) only [↓ View.readCov_skip, ↓ View.readCov_cons_toLoadRect, ↓ View.readCov_fill]
  frame_out
  rw [read_unread_whole]
  try rfl

/-- The last point of a run. -/
theorem outs_C (t : Fin cfg0.N) (h1 : t.val % 11 = 10) (p : ℕ) (hp : p < cfg0.N) (hpt : p + 1 = t.val) :
    (outsAt0 (F := Ideal) m c t.val t.isLt).1
    = k0_pay4 (iblk m c 0 t) (k0_pay3 (outsAt0 m c p hp).2 (iblk m c 2 t) (iblk m c 3 t)
      (outsAt0 m c p hp).1 (iblk m c 4 t)) (iblk m c 5 t) := by
  obtain rfl : p = t.val - 1 := by omega
  rw [outsAt0_C m c t (by omega) h1]
  frame_open
  simp (disch := decide) only [↓ View.readCov_skip, ↓ View.readCov_cons_toLoadRect, ↓ View.readCov_fill]
  frame_out
  rw [read_unread_whole]
  try rfl

/-! ## The blocks -/

/-- Each window's block at a grid point. -/
theorem idx : ∀ t : Fin cfg0.N, win0_0.index t = ![t.val / 11, 0] ∧ win0_1.index t = ![0, 0]
    ∧ win0_2.index t = ![0, t.val % 11] ∧ win0_3.index t = ![0, t.val % 11 + 11] ∧ win0_4.index t = ![t.val % 11, 0]
    ∧ win0_5.index t = ![0, 0] ∧ win0_6.index t = ![t.val / 11, 0] :=
  (by decide +kernel : ∀ t : Fin grid0.N, _)

theorem t_lt (t : Fin cfg0.N) : t.val < 352 := t.isLt

/-- The arguments. -/
def X : Fin 16384 → Fin 2048 → EReal := fun R k => m ((c : Thread nD τ).loc main_arg0) (ix2 R k)
def G : Fin 2048 → EReal := fun k => m ((c : Thread nD τ).loc main_arg1) (ix1 k)
def WI : Fin 2048 → Fin 11264 → EReal := fun k f => m ((c : Thread nD τ).loc main_arg2) (ix2 k f)
def WO : Fin 2048 → Fin 5632 → EReal := fun d f => m ((c : Thread nD τ).loc main_arg3) (ix2 f d)
def GF : Fin 2048 → EReal := fun k => m ((c : Thread nD τ).loc main_arg4) (ix1 k)

/-- Row `r` of the block of rows of point `t`. -/
def row (t : Fin cfg0.N) (r : Fin 512) : Fin 16384 := ⟨512 * (t.val / 11) + r.val, by have := t_lt t; omega⟩

theorem x_at (t : Fin cfg0.N) (r : Fin 512) (k : Fin 2048) : iblk m c 0 t (ix2 r k) = X m c (row t r) k := by
  unfold X row
  blk_point [iblk, V, idx t]

theorem g_at (t : Fin cfg0.N) (k : Fin 2048) : iblk m c 1 t (ix2 0 k) = G m c k := by
  have h : iblk m c 1 t (ix2 0 k) = V m c main_v0 (ix2 0 k) := by
    blk_point [iblk, idx t]
  rw [h]
  unfold G
  entry_read
  pointwise
  done

theorem gf_at (t : Fin cfg0.N) (k : Fin 2048) : iblk m c 5 t (ix2 0 k) = GF m c k := by
  have h : iblk m c 5 t (ix2 0 k) = V m c main_v3 (ix2 0 k) := by
    blk_point [iblk, idx t]
  rw [h]
  unfold GF
  entry_read
  pointwise
  done

theorem wg_at (t : Fin cfg0.N) (k : Fin 2048) (l : Fin 512) :
    iblk m c 2 t (ix2 k l) = WI m c k ⟨(at11 t.val l).val, by omega⟩ := by
  have h : iblk m c 2 t (ix2 k l) = V m c main_v1 (ix2 k ⟨(at11 t.val l).val, by omega⟩) := by
    unfold at11
    blk_point [iblk, idx t]
  rw [h]
  unfold WI
  entry_read
  pointwise
  done

theorem wu_at (t : Fin cfg0.N) (k : Fin 2048) (l : Fin 512) :
    iblk m c 3 t (ix2 k l) = WI m c k ⟨5632 + (at11 t.val l).val, by omega⟩ := by
  have h : iblk m c 3 t (ix2 k l) = V m c main_v1 (ix2 k ⟨5632 + (at11 t.val l).val, by omega⟩) := by
    unfold at11
    blk_point [iblk, idx t]
  rw [h]
  unfold WI
  entry_read
  pointwise
  done

theorem wo_at (t : Fin cfg0.N) (l : Fin 512) (d : Fin 2048) : iblk m c 4 t (ix2 l d) = WO m c d (at11 t.val l) := by
  have h : iblk m c 4 t (ix2 l d) = V m c main_v2 (ix2 (at11 t.val l) d) := by
    unfold at11
    blk_point [iblk, idx t]
  rw [h]
  unfold WO
  entry_read
  pointwise
  done

/-! ## The run of eleven points -/

/-- The row of point `n`'s block, and that points of one run have one row. -/
def xrow (r : Fin 512) (n : ℕ) (h : n < 352) : Fin 2048 → EReal := X m c (row ⟨n, h⟩ r)

theorem xrow_eq (r : Fin 512) (n n' : ℕ) (h h') (hn : n / 11 = n' / 11) : xrow m c r n h = xrow m c r n' h' :=
  congrArg (X m c) (Fin.ext (by simp only [row, hn]))

theorem norm_blk (n : ℕ) (h : n < 352) (r : Fin 512) (d : Fin 2048) :
    k0_pay1 (F := Ideal) (iblk m c 0 ⟨n, h⟩) (iblk m c 1 ⟨n, h⟩) (ix2 r d) = rms (xrow m c r n h) (G m c) d := by
  rw [norm_at]
  simp only [x_at, g_at]
  rfl

theorem step_blk (n : ℕ) (h : n < 352) (s : Vec Ideal S512x2048 .bf16) (acc : Vec Ideal S512x2048 .f32) (r : Fin 512) (d : Fin 2048)
    (hs : (fun k => s (ix2 r k)) = rms (xrow m c r n h) (G m c)) :
    k0_pay3 (F := Ideal) s (iblk m c 2 ⟨n, h⟩) (iblk m c 3 ⟨n, h⟩) acc (iblk m c 4 ⟨n, h⟩) (ix2 r d)
      = acc (ix2 r d) + part (xrow m c r) (G m c) (WI m c) (WO m c) n h d := by
  rw [step_at]
  simp only [hs, wg_at, wu_at, wo_at]
  rfl

/-- The run's points, by the shared sweep. -/
theorem run_at (r : Fin 512) (n : ℕ) (h : n < 352) (hn : n % 11 < 10) :
    (fun k => (outsAt0 (F := Ideal) m c n h).2 (ix2 r k)) = rms (xrow m c r n h) (G m c)
    ∧ ∀ d, (outsAt0 (F := Ideal) m c n h).1 (ix2 r d) = upto (xrow m c r) (G m c) (WI m c) (WO m c) n h (n % 11 + 1) d := by
  refine sweep (xrow m c r) (G m c) (WI m c) (WO m c) (xrow_eq m c r)
    (fun n h k => (outsAt0 (F := Ideal) m c n h).2 (ix2 r k)) (fun n h k => (outsAt0 (F := Ideal) m c n h).1 (ix2 r k))
    (fun n h h0 => by
      have hA := outs_A m c ⟨n, h⟩ h0
      dsimp only at hA
      rw [hA]
      have hs := funext fun k => norm_blk m c n h r k
      exact ⟨hs, fun d => (step_blk m c n h _ _ r d hs).trans (by rw [zero_at])⟩)
    (fun n h h' h0 h1 hs => by
      have hB := outs_B m c ⟨n + 1, h⟩ h0 h1 n h' rfl
      dsimp only at hB
      rw [hB]
      exact ⟨rfl, fun d => step_blk m c (n + 1) h _ _ r d hs⟩) n h hn

/-- What a run's last point leaves: the rows after the half step, each divided by its root mean square. -/
theorem last_at (t : Fin cfg0.N) (h1 : t.val % 11 = 10) (r : Fin 512) (d : Fin 2048) :
    (outsAt0 (F := Ideal) m c t.val t.isLt).1 (ix2 r d)
      = rms (fun d => ffn (X m c (row t r)) (G m c) (WI m c) (WO m c d) d) (GF m c) d := by
  obtain ⟨n, hn⟩ := t
  cases n with
  | zero => exact absurd h1 (by show ¬ 0 % 11 = 10; decide)
  | succ n =>
    have h1' : (n + 1) % 11 = 10 := h1
    have hN : n + 1 < 352 := hn
    obtain ⟨ih1, ih2⟩ := run_at m c r n (by omega) (by omega)
    rw [xrow_eq m c r n (n + 1) (by omega) hn (by omega)] at ih1
    rw [outs_C m c ⟨n + 1, hn⟩ h1 n (by show _ < 352; omega) rfl, close_at]
    refine congrArg₂ (fun a b => rms a b d) (funext fun k => ?_) (funext fun k => gf_at m c _ k)
    rw [step_blk m c (n + 1) hn _ _ r k ih1, ih2, x_at]
    exact sweep_last (xrow m c r) (G m c) (WI m c) (WO m c) (xrow_eq m c r) n hn (by omega) h1' k

end Cert.Ffn2

end
-- ==== Proof.Ffn2Ref.lean ====
/-
  The feed-forward call with the closing norm: its result array against the reference, which is the other call's
  reference and its norm once more.
-/
module

public import proofs.«01_k».proof.Proof.Ffn1Ref
public import proofs.«01_k».proof.Proof.Ffn2

@[expose] public section

set_option maxRecDepth 16384

noncomputable section

namespace Cert.Ffn2

open Cert.Kernel2Ideal Cert.Kernel2Ideal.Gen Idealize.ShloMosaic Idealize.ShloMosaic.TcCoe Cert.Layer
open Idealize.ShloMosaic.Pipeline (Dat)

variable (m : (ℓ : Loc nD τ sig) → Buf (Elt Ideal) ℓ) (c : Dev nD)

/-- THE RESULT ARRAY is the reference's term of the arguments. -/
theorem final : (dats m 0 c).arrAt 6 (cfgs 0).N
      = Ffn1.Plain.N (Ffn1.Plain.REF (m ((c : Thread nD τ).loc main_arg0)) (m ((c : Thread nD τ).loc main_arg1))
        (m ((c : Thread nD τ).loc main_arg2)) (m ((c : Thread nD τ).loc main_arg3))) (m ((c : Thread nD τ).loc main_arg4)) := by
  refine (dats m 0 c).arrAt_eq_of_covers 6 _ (by decide +kernel) fun t hf y => ?_
  blk_simp
  rw [after0_6]
  obtain ⟨r, d, rfl⟩ : ∃ (r : Fin 512) (d : Fin 2048), y = ix2 r d := ⟨y 0, y 1, by funext d; fin_cases d <;> rfl⟩
  have he : (win0_6.blk t).view.emb (ix2 r d) = ix2 (row t r) d := by
    unfold row
    blk_ext [idx t]
  rw [he, Ffn1.Plain.N_at, last_at m c t ((flush0_6 t).mp hf)]
  simp only [Ffn1.Plain.REF_at]
  rfl

end Cert.Ffn2

end
-- ==== Proof.Proj.lean ====
/-
  The two projections of the normed rows, the gates' and the recurrence's: their payloads, their references and their
  result arrays.
-/
module

public import proofs.«01_k».proof.Proof.Gen.Kernel4Ideal.Value
public import proofs.«01_k».proof.Proof.Gen.Kernel5Ideal.Value
public import proofs.«01_k».proof.Proof.Ffn1Ref
public import proofs.«01_k».proof.Proof.Gen.Reference4Ideal.Run
public import proofs.«01_k».proof.Proof.Gen.Reference5Ideal.Run

@[expose] public section

set_option maxRecDepth 16384

noncomputable section

namespace Cert.Proj.Plain

open Cert.Reference4Ideal Cert.Reference4Ideal.Gen Idealize.ShloMosaic Idealize.ShloMosaic.TcCoe Cert.Layer
open scoped BigOperators

variable (x : FVec Ideal S16384x2048 .f32) (g : FVec Ideal S2048 .f32) (w : FVec Ideal S2048x8896 .f32)

/-- The normed rows times the combined matrix. -/
def H : FVec Ideal S16384x8896 .f32 :=
  Host.dotGeneral dot_S16384x2048_S2048x8896_S16384x8896_1_0_0_1_n_n none (Ffn1.Plain.N x g) w

/-- The gates. -/
def GATE : FVec Ideal S16384x4096 .bf16 :=
  truncf .bf16 (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 4800] (H x g w) slices_S16384x8896_S16384x4096_0_4800))))) bitsLt_bf16_f32

theorem H_at (R : Fin 16384) (f : Fin 8896) :
    H x g w (ix2 R f) = ∑ k, rms (fun k => x (ix2 R k)) (fun k => g (ix1 k)) k * w (ix2 k f) := by
  unfold H
  pointwise
  simp only [Ffn1.Plain.N_at]

theorem GATE_at (R : Fin 16384) (f : Fin 4096) : GATE x g w (ix2 R f) = sig (H x g w (ix2 R ⟨4800 + f.val, by omega⟩)) := by
  unfold GATE
  pointwise
  rfl

end Cert.Proj.Plain

namespace Cert.Proj.Gate

open Cert.Kernel4Ideal Cert.Kernel4Ideal.Gen Idealize.ShloMosaic Idealize.ShloMosaic.TcCoe Cert.Layer
open Idealize.ShloMosaic.Pipeline (Dat)

theorem norm_at (x : Vec Ideal S1024x2048 .f32) (g : Vec Ideal S1x2048 .f32) (r : Fin 1024) (d : Fin 2048) :
    k0_pay1 (F := Ideal) x g (ix2 r d) = rms (fun k => x (ix2 r k)) (fun k => g (ix2 0 k)) d := by
  pointwise [k0_pay1]
  rfl

theorem out_at (s : Vec Ideal S1024x2048 .bf16) (w : Vec Ideal S2048x2048 .bf16) (r : Fin 1024) (f : Fin 2048) :
    k0_pay2 (F := Ideal) s w (ix2 r f) = sig (∑ k, s (ix2 r k) * w (ix2 k f)) := by
  pointwise [k0_pay2]
  exact sig_tanh _

variable (m : (ℓ : Loc nD τ sig) → Buf (Elt Ideal) ℓ) (c : Dev nD)

/-- The first point of a pair. -/
theorem outs_A (t : Fin cfg0.N) (h0 : t.val % 2 = 0) : outsAt0 (F := Ideal) m c t.val t.isLt
    = (k0_pay2 (k0_pay1 (iblk m c 0 t) (iblk m c 1 t)) (iblk m c 2 t), k0_pay1 (iblk m c 0 t) (iblk m c 1 t)) := by
  rw [outsAt0_A m c t h0]
  frame_open
  simp (disch := decide) only [↓ View.readCov_skip, ↓ View.readCov_cons_toLoadRect, ↓ View.readCov_fill]
  frame_out

/-- The second point of a pair. -/
theorem outs_B (t : Fin cfg0.N) (h0 : ¬ t.val % 2 = 0) (p : ℕ) (hp : p < cfg0.N) (hpt : p + 1 = t.val) :
    (outsAt0 (F := Ideal) m c t.val t.isLt).1 = k0_pay2 (outsAt0 m c p hp).2 (iblk m c 2 t) := by
  obtain rfl : p = t.val - 1 := by omega
  rw [outsAt0_B m c t h0]
  frame_open
  simp (disch := decide) only [↓ View.readCov_skip, ↓ View.readCov_cons_toLoadRect, ↓ View.readCov_fill]
  frame_out
  rw [read_unread_whole]

/-- Each window's block at a grid point. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

theorem t_lt (t : Fin cfg0.N) : t.val < 32 := t.isLt

def row (t : Fin cfg0.N) (r : Fin 1024) : Fin 16384 := ⟨1024 * (t.val / 2) + r.val, by have := t_lt t; omega⟩

def col (t : Fin cfg0.N) (f : Fin 2048) : Fin 4096 := ⟨2048 * (t.val % 2) + f.val, by omega⟩

theorem x_at (t : Fin cfg0.N) (r : Fin 1024) (k : Fin 2048) :
    iblk m c 0 t (ix2 r k) = m ((c : Thread nD τ).loc main_arg0) (ix2 (row t r) k) := by
  unfold row
  blk_point [iblk, V, idx t]

theorem g_at (t : Fin cfg0.N) (k : Fin 2048) : iblk m c 1 t (ix2 0 k) = m ((c : Thread nD τ).loc main_arg1) (ix1 k) := by
  have h : iblk m c 1 t (ix2 0 k) = V m c main_v0 (ix2 0 k) := by
    blk_point [iblk, idx t]
  rw [h]
  entry_read
  pointwise
  done

theorem w_at (t : Fin cfg0.N) (k : Fin 2048) (f : Fin 2048) :
    iblk m c 2 t (ix2 k f) = m ((c : Thread nD τ).loc main_arg2) (ix2 k ⟨4800 + (col t f).val, by omega⟩) := by
  have h : iblk m c 2 t (ix2 k f) = V m c main_v2 (ix2 k (col t f)) := by
    unfold col
    blk_point [iblk, idx t]
  rw [h]
  entry_read
  pointwise
  done

theorem norm_blk (t : Fin cfg0.N) (r : Fin 1024) (d : Fin 2048) : k0_pay1 (F := Ideal) (iblk m c 0 t) (iblk m c 1 t) (ix2 r d)
    = rms (fun k => m ((c : Thread nD τ).loc main_arg0) (ix2 (row t r) k)) (fun k => m ((c : Thread nD τ).loc main_arg1) (ix1 k)) d := by
  rw [norm_at]
  simp only [x_at, g_at]

/-- THE RESULT ARRAY is the reference's term of the arguments. -/
theorem final : (dats m 0 c).arrAt 3 (cfgs 0).N = Plain.GATE (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, f, rfl⟩ : ∃ (r : Fin 1024) (f : Fin 2048), y = ix2 r f := ⟨y 0, y 1, by funext d; fin_cases d <;> rfl⟩
  have he : (win0_3.blk t).view.emb (ix2 r f) = ix2 (row t r) (col t f) := by
    unfold row col
    blk_ext [idx t]
  rw [he, Plain.GATE_at, Plain.H_at]
  by_cases h0 : t.val % 2 = 0
  · rw [outs_A m c t h0]
    dsimp only
    rw [out_at]
    simp only [norm_blk, w_at]
  · have ht := t_lt t
    have hp : t.val - 1 < 32 := by omega
    rw [outs_B m c t h0 (t.val - 1) hp (by omega), out_at, outs_A m c ⟨t.val - 1, hp⟩ (by show (t.val - 1) % 2 = 0; omega)]
    have hr : row ⟨t.val - 1, hp⟩ r = row t r := Fin.ext (by show 1024 * ((t.val - 1) / 2) + r.val = 1024 * (t.val / 2) + r.val; omega)
    simp only [norm_blk, w_at, hr]

end Cert.Proj.Gate

namespace Cert.Proj.Rwkv

open Cert.Kernel5Ideal Cert.Kernel5Ideal.Gen Idealize.ShloMosaic Idealize.ShloMosaic.TcCoe Cert.Layer
open Idealize.ShloMosaic.Pipeline (Dat)

/-- The recurrence's columns. -/
def REF (x : FVec Ideal S16384x2048 .f32) (g : FVec Ideal S2048 .f32) (w : FVec Ideal S2048x8896 .f32) :
    FVec Ideal Cert.Reference5Ideal.S16384x3712 .bf16 :=
  truncf .bf16 (extractStridedSlice Cert.Reference5Ideal.S16384x3712 ![0, 0] (Plain.H x g w) Cert.Reference5Ideal.Gen.facts.slices_S16384x8896_S16384x3712_0_0) Cert.Reference5Ideal.Gen.facts.bitsLt_bf16_f32

theorem REF_at (x : FVec Ideal S16384x2048 .f32) (g : FVec Ideal S2048 .f32) (w : FVec Ideal S2048x8896 .f32) (R : Fin 16384) (f : Fin 3712) :
    REF x g w (ix2 R f) = Plain.H x g w (ix2 R ⟨f.val, by omega⟩) := by
  unfold REF
  pointwise
  done

theorem norm_at (x : Vec Ideal S512x2048 .f32) (g : Vec Ideal S1x2048 .f32) (r : Fin 512) (d : Fin 2048) :
    k0_pay1 (F := Ideal) x g (ix2 r d) = rms (fun k => x (ix2 r k)) (fun k => g (ix2 0 k)) d := Ffn1.norm_at x g r d

theorem out_at (s : Vec Ideal S512x2048 .bf16) (w : Vec Ideal S2048x3712 .bf16) (r : Fin 512) (f : Fin 3712) :
    k0_pay2 (F := Ideal) s w (ix2 r f) = ∑ k, s (ix2 r k) * w (ix2 k f) := by
  pointwise [k0_pay2]
  done

variable (m : (ℓ : Loc nD τ sig) → Buf (Elt Ideal) ℓ) (c : Dev nD)

theorem outs_eq (t : Fin cfg0.N) : outsAt0 (F := Ideal) m c t
    = k0_pay2 (k0_pay1 (iblk m c 0 t) (iblk m c 1 t)) (iblk m c 2 t) := by
  unfold outsAt0
  frame_open
  simp (disch := decide) only [↓ View.readCov_skip, ↓ View.readCov_cons_toLoadRect, ↓ View.readCov_fill]
  frame_out

/-- Each window's block at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem t_lt (t : Fin cfg0.N) : t.val < 32 := t.isLt

def row (t : Fin cfg0.N) (r : Fin 512) : Fin 16384 := ⟨512 * t.val + r.val, by have := t_lt t; omega⟩

theorem x_at (t : Fin cfg0.N) (r : Fin 512) (k : Fin 2048) :
    iblk m c 0 t (ix2 r k) = m ((c : Thread nD τ).loc main_arg0) (ix2 (row t r) k) := by
  unfold row
  blk_point [iblk, V, idx t]

theorem g_at (t : Fin cfg0.N) (k : Fin 2048) : iblk m c 1 t (ix2 0 k) = m ((c : Thread nD τ).loc main_arg1) (ix1 k) := by
  have h : iblk m c 1 t (ix2 0 k) = V m c main_v0 (ix2 0 k) := by
    blk_point [iblk, idx t]
  rw [h]
  entry_read
  pointwise
  done

theorem w_at (t : Fin cfg0.N) (k : Fin 2048) (f : Fin 3712) :
    iblk m c 2 t (ix2 k f) = m ((c : Thread nD τ).loc main_arg2) (ix2 k ⟨f.val, by omega⟩) := by
  have h : iblk m c 2 t (ix2 k f) = V m c main_v2 (ix2 k f) := by
    blk_point [iblk, idx t]
  rw [h]
  entry_read
  pointwise
  done

/-- THE RESULT ARRAY is the reference's term of the arguments. -/
theorem final : (dats m 0 c).arrAt 3 (cfgs 0).N = REF (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, f, rfl⟩ : ∃ (r : Fin 512) (f : Fin 3712), y = ix2 r f := ⟨y 0, y 1, by funext d; fin_cases d <;> rfl⟩
  have he : (win0_3.blk t).view.emb (ix2 r f) = ix2 (row t r) f := by
    unfold row
    blk_ext [idx t]
  rw [he, REF_at, Plain.H_at, outs_eq, out_at]
  simp only [norm_at, x_at, g_at, w_at]

end Cert.Proj.Rwkv

end
-- ==== Proof.HeadSum.lean ====
/-
  Sums over a head of 64 columns, taken as products with a 256 by 256 matrix of zeros and ones, and the norm of a head.
-/
module

public import proofs.«01_k».proof.Proof.Gen.Kernel6Ideal.Value
public import proofs.«01_k».proof.Proof.Layer
public import Idealize.ShloMosaic.Lib.Pipeline.ValueKit
public import Idealize.ShloMosaic.Lib.Pipeline.ReadBack

@[expose] public section

set_option maxRecDepth 16384

noncomputable section

namespace Cert.Head

open Cert.Kernel6Ideal Cert.Kernel6Ideal.Gen Idealize.ShloMosaic Idealize.ShloMosaic.TcCoe
open scoped BigOperators

/-- The float words' values: a sixty-fourth, sixty-four, and the small number added to a head's variance. -/
def len : EReal := Ideal.ofBits .f32 0x42800000#32
def eps : EReal := Ideal.ofBits .f32 0x3A27C5AC#32

/-- Dividing by 64 is multiplying by a sixty-fourth, at every value. -/
theorem mul_inv (a : EReal) : a * Ideal.ofBits .f32 0x3C800000#32 = Ideal.div a len := by
  have h1 : Ideal.ofBits .f32 0x3C800000#32 = ((1 / 64 : ℝ) : EReal) := by
    simp [Ideal.ofBits, Ideal.ieee, -EReal.coe_mul]
    norm_num
  have h2 : len = ((64 : ℝ) : EReal) := by
    simp [len, Ideal.ofBits, Ideal.ieee, -EReal.coe_mul]
    norm_num
  rw [h1, h2, Ideal.div_coe (by norm_num)]

/-- Column `k` of the head that column `d` lies in. -/
def at64 (d : Fin 1024) (k : Fin 64) : Fin 1024 := ⟨64 * (d.val / 64) + k.val, by omega⟩

/-- The sum over the head that column `d` lies in. -/
def hsum (x : Fin 1024 → EReal) (d : Fin 1024) : EReal := ∑ k, x (at64 d k)

/-- One column less its head's mean. -/
def cen (x : Fin 1024 → EReal) (d : Fin 1024) : EReal := x d - Ideal.div (hsum x d) len

/-- One entry of a row normed head by head, scaled and shifted. -/
def gn (x g b : Fin 1024 → EReal) (d : Fin 1024) : EReal :=
  cen x d * Ideal.rsqrt (Ideal.div (hsum (fun e => cen x e * cen x e) d) len + eps) * g d + b d

/-- A sum over 256 columns weighted by the head's zeros and ones is the sum over the head. -/
theorem sum_mask (x : Fin 1024 → EReal) (d : Fin 1024) :
    ∑ k : Fin 256, x ⟨256 * (d.val / 256) + k.val, by omega⟩ * (if k.val / 64 = d.val % 256 / 64 then (1 : EReal) else 0) = hsum x d := by
  rw [Fin.sum_univ_tiles 4 64 rfl]
  rw [Finset.sum_eq_single (⟨d.val % 256 / 64, by omega⟩ : Fin 4)]
  · refine Finset.sum_congr rfl fun k _ => ?_
    have h1 : (d.val % 256 / 64 * 64 + k.val) / 64 = d.val % 256 / 64 := by omega
    have h2 : (⟨256 * (d.val / 256) + (d.val % 256 / 64 * 64 + k.val), by omega⟩ : Fin 1024) = at64 d k := Fin.ext (by simp only [at64]; omega)
    simp only [h1, h2, if_true, mul_one]
  · intro j _ hj
    refine Finset.sum_eq_zero fun k _ => ?_
    have h1 : (j.val * 64 + k.val) / 64 = j.val := by omega
    have h2 : ¬ j.val = d.val % 256 / 64 := fun h => hj (Fin.ext h)
    simp only [h1, h2, if_false, mul_zero]
  · exact fun h => absurd (Finset.mem_univ _) h

/-! ## The matrix of zeros and ones -/

/-- The printed quotient by 64 of an array of whole numbers. -/
def quot (i : IVec S256x256 32) : IVec S256x256 32 :=
  select (andi (cmpi .ne (subi (extui 32 (cmpi .sgt i (broadcast S256x256 0#32)) natLt_1_32) (extui 32 (cmpi .slt i (broadcast S256x256 0#32)) natLt_1_32)) (broadcast S256x256 (Scalar.subi (Scalar.extui (Scalar.cmpi .sgt 64#32 0#32)) (Scalar.extui (Scalar.cmpi .slt 64#32 0#32))))) (cmpi .ne (remsi i (broadcast S256x256 64#32)) (broadcast S256x256 0#32))) (subi (divsi i (broadcast S256x256 64#32)) (broadcast S256x256 1#32)) (divsi i (broadcast S256x256 64#32))

/-- Whether the row's and the column's heads are the same, as a word. -/
def SAME : IVec S256x256 32 :=
  extui 32 (cmpi .eq (quot (iota .tc S256x256 32 [0] iota_S256x256_d0_w32)) (quot (iota .tc S256x256 32 [1] iota_S256x256_d1_w32))) natLt_1_32

/-- The matrix. -/
def MASK : FVec Ideal S256x256 .bf16 := truncf .bf16 (sitofp .f32 SAME) bitsLt_bf16_f32

/-- The quotient of one word. -/
def quot1 (i : BitVec 32) : BitVec 32 :=
  Scalar.select (IntOp.andi (IntOp.cmpi .ne (IntOp.subi ((IntOp.cmpi .sgt i 0#32).setWidth 32) ((IntOp.cmpi .slt i 0#32).setWidth 32)) (Scalar.subi (Scalar.extui (Scalar.cmpi .sgt 64#32 0#32)) (Scalar.extui (Scalar.cmpi .slt 64#32 0#32)))) (IntOp.cmpi .ne (IntOp.remsi .vector i 64#32) 0#32)) (IntOp.subi (IntOp.divsi .vector i 64#32) 1#32) (IntOp.divsi .vector i 64#32)

theorem quot1_at : ∀ r : Fin 256, quot1 (BitVec.ofNat 32 r.val) = BitVec.ofNat 32 (r.val / 64) := by decide +kernel

theorem quot_at (i : IVec S256x256 32) (j : S256x256.Idx) : quot i j = quot1 (i j) := rfl

theorem same_at : ∀ r c : Fin 4, (IntOp.cmpi .eq (BitVec.ofNat 32 r.val) (BitVec.ofNat 32 c.val)).setWidth 32 = if r.val = c.val then 1#32 else 0#32 := by decide +kernel

theorem MASK_at (r c : Fin 256) : MASK (ix2 r c) = if r.val / 64 = c.val / 64 then (1 : EReal) else 0 := by
  have h0 : iota .tc S256x256 32 [0] iota_S256x256_d0_w32 (ix2 r c) = BitVec.ofNat 32 r.val := by simp [iota, ix2]
  have h1 : iota .tc S256x256 32 [1] iota_S256x256_d1_w32 (ix2 r c) = BitVec.ofNat 32 c.val := by simp [iota, ix2]
  have h : SAME (ix2 r c) = if r.val / 64 = c.val / 64 then 1#32 else 0#32 := by
    refine Eq.trans ?_ (same_at ⟨r.val / 64, by omega⟩ ⟨c.val / 64, by omega⟩)
    show (IntOp.cmpi .eq (quot _ (ix2 r c)) (quot _ (ix2 r c))).setWidth 32 = _
    rw [quot_at, quot_at, h0, h1, quot1_at, quot1_at]
  show ((((SAME (ix2 r c)).toInt : ℝ)) : EReal) = _
  rw [h]
  split <;> simp

/-! ## The sums -/

/-- The heads' sums of a block of rows. -/
def HS (x : FVec Ideal S256x1024 .f32) (M : FVec Ideal S256x256 .bf16) : FVec Ideal S256x1024 .f32 :=
  concatenate S256x1024 1 [⟨S256x256, matmul dot_S256x256_S256x256_S256x256_1_0_0_1_n_n none (truncf .bf16 (extractStridedSlice S256x256 ![0, 0] x slices_S256x1024_o0_0_S256x256) bitsLt_bf16_f32) M (constant S256x256 .f32 0x00000000#32)⟩, ⟨S256x256, matmul dot_S256x256_S256x256_S256x256_1_0_0_1_n_n none (truncf .bf16 (extractStridedSlice S256x256 ![0, 256] x slices_S256x1024_o0_256_S256x256) bitsLt_bf16_f32) M (constant S256x256 .f32 0x00000000#32)⟩, ⟨S256x256, matmul dot_S256x256_S256x256_S256x256_1_0_0_1_n_n none (truncf .bf16 (extractStridedSlice S256x256 ![0, 512] x slices_S256x1024_o0_512_S256x256) bitsLt_bf16_f32) M (constant S256x256 .f32 0x00000000#32)⟩, ⟨S256x256, matmul dot_S256x256_S256x256_S256x256_1_0_0_1_n_n none (truncf .bf16 (extractStridedSlice S256x256 ![0, 768] x slices_S256x1024_o0_768_S256x256) bitsLt_bf16_f32) M (constant S256x256 .f32 0x00000000#32)⟩] concatenates_S256x256_S256x256_S256x256_S256x256_S256x1024_d1

theorem HS_mask (x : FVec Ideal S256x1024 .f32) (M : FVec Ideal S256x256 .bf16) (r : Fin 256) (d : Fin 1024) : HS x M (ix2 r d)
    = ∑ k : Fin 256, x (ix2 r ⟨256 * (d.val / 256) + k.val, by omega⟩) * M (ix2 k ⟨d.val % 256, by omega⟩) := by
  unfold HS
  pointwise
  split_ifs <;>
  · refine Finset.sum_congr rfl fun k _ => congrArg₂ (· * ·) (congrArg x (congrArg (ix2 r) (Fin.ext ?_))) (congrArg M (congrArg (ix2 k) (Fin.ext ?_)))
    · show _ = 256 * (d.val / 256) + k.val
      dsimp only
      omega
    · show _ = d.val % 256
      dsimp only
      omega

theorem HS_at (x : FVec Ideal S256x1024 .f32) (r : Fin 256) (d : Fin 1024) : HS x MASK (ix2 r d) = hsum (fun e => x (ix2 r e)) d := by
  rw [HS_mask, ← sum_mask]
  simp only [MASK_at]

/-- A block of rows less their heads' means. -/
def CEN (x : FVec Ideal S256x1024 .f32) : FVec Ideal S256x1024 .f32 :=
  subf x (mulf (HS x MASK) (broadcast S256x1024 (Scalar.ofBits .f32 0x3C800000#32)))

/-- A block of rows normed head by head. -/
def GN (x : FVec Ideal S256x1024 .f32) (g b : FVec Ideal S1x1024 .f32) : FVec Ideal S256x1024 .f32 :=
  addf (mulf (mulf (CEN x) (rsqrt (addf (mulf (HS (mulf (CEN x) (CEN x)) MASK) (broadcast S256x1024 (Scalar.ofBits .f32 0x3C800000#32))) (broadcast S256x1024 (Scalar.ofBits .f32 0x3A27C5AC#32))))) (broadcastTo S256x1024 g broadcasts_S1x1024_S256x1024)) (broadcastTo S256x1024 b broadcasts_S1x1024_S256x1024)

theorem CEN_at (x : FVec Ideal S256x1024 .f32) (r : Fin 256) (d : Fin 1024) : CEN x (ix2 r d) = cen (fun e => x (ix2 r e)) d := by
  unfold CEN
  pointwise
  rw [HS_at]
  exact congrArg (x (ix2 r d) - ·) (mul_inv _)

theorem GN_at (x : FVec Ideal S256x1024 .f32) (g b : FVec Ideal S1x1024 .f32) (r : Fin 256) (d : Fin 1024) :
    GN x g b (ix2 r d) = gn (fun e => x (ix2 r e)) (fun e => g (ix2 0 e)) (fun e => b (ix2 0 e)) d := by
  unfold GN
  pointwise
  rw [HS_at, CEN_at]
  unfold gn
  rw [← mul_inv]
  have h : (fun e => mulf (CEN x) (CEN x) (ix2 r e)) = fun e => cen (fun e => x (ix2 r e)) e * cen (fun e => x (ix2 r e)) e := by
    funext e
    pointwise
    rw [CEN_at]
  rw [h]
  rfl

end Cert.Head

end
-- ==== Proof.Merge.lean ====
/-
  The merge of the two mixers' rows: the kernel's payloads, the reference and the result array.
-/
module

public import proofs.«01_k».proof.Proof.HeadSum
public import proofs.«01_k».proof.Proof.Gen.Reference6Ideal.Run

@[expose] public section

set_option maxRecDepth 16384

noncomputable section

namespace Cert.Merge

open Idealize.ShloMosaic Cert.Head
open scoped BigOperators

/-- One entry of the time mixing's row: both directions normed head by head, the bonus added, through the gate. -/
def mix (f b u g : Fin 1024 → EReal) (lg lb : Fin 1024 → EReal) (k : Fin 1024) : EReal :=
  (gn f lg lb k + gn b lg lb k + u k) * g k

/-- One entry of the row after the merge. -/
def out (x : EReal) (a o : Fin 1024 → EReal) (ga gb : Fin 2048 → EReal) (wa wb : Fin 1024 → Fin 2048 → EReal) (wo : Fin 2048 → EReal) : EReal :=
  x + ∑ e, (ga e * (∑ k, a k * wa k e) + gb e * ∑ k, o k * wb k e) * wo e

end Cert.Merge

namespace Cert.Merge.Plain

open Cert.Reference6Ideal Cert.Reference6Ideal.Gen Idealize.ShloMosaic Idealize.ShloMosaic.TcCoe Cert.Head
open scoped BigOperators

/-- The rows cut into heads. -/
def X (x : FVec Ideal S16384x1024 .bf16) : FVec Ideal S1x16384x16x64 .f32 :=
  shapeCast _ (extf .f32 x bitsLt_bf16_f32) shapeCasts_S16384x1024_S1x16384x16x64

/-- The heads less their means. -/
def C (x : FVec Ideal S16384x1024 .bf16) : FVec Ideal S1x16384x16x64 .f32 :=
  subf (X x) (broadcastInDim S1x16384x16x64 ![0, 1, 2, 3] bcast_S1x16384x16x1_S1x16384x16x64_0_1_2_3 (Host.divf (broadcastInDim S1x16384x16x1 ![0, 1, 2] bcast_S1x16384x16_S1x16384x16x1_0_1_2 (Host.reduceAdd (X x) (constant S_ .f32 0x00000000#32) reducesTo_S1x16384x16x64_S1x16384x16_d3 h_S_)) (broadcastInDim S1x16384x16x1 ![] bcast_S_S1x16384x16x1 (constant S_ .f32 0x42800000#32))))

/-- The heads normed. -/
def Y (x : FVec Ideal S16384x1024 .bf16) : FVec Ideal S1x16384x16x64 .f32 :=
  mulf (C x) (broadcastInDim S1x16384x16x64 ![0, 1, 2, 3] bcast_S1x16384x16x1_S1x16384x16x64_0_1_2_3 (Host.rsqrt (addf (Host.divf (broadcastInDim S1x16384x16x1 ![0, 1, 2] bcast_S1x16384x16_S1x16384x16x1_0_1_2 (Host.reduceAdd (mulf (C x) (C x)) (constant S_ .f32 0x00000000#32) reducesTo_S1x16384x16x64_S1x16384x16_d3 h_S_)) (broadcastInDim S1x16384x16x1 ![] bcast_S_S1x16384x16x1 (constant S_ .f32 0x42800000#32))) (broadcastInDim S1x16384x16x1 ![] bcast_S_S1x16384x16x1 (constant S_ .f32 0x3A27C5AC#32)))))

/-- The rows normed, scaled and shifted. -/
def G (x : FVec Ideal S16384x1024 .bf16) (g b : FVec Ideal S1024 .f32) : FVec Ideal S1x16384x1024 .f32 :=
  addf (mulf (shapeCast _ (Y x) shapeCasts_S1x16384x16x64_S1x16384x1024) (broadcastInDim S1x16384x1024 ![0, 1, 2] bcast_S1x1x1024_S1x16384x1024_0_1_2 (broadcastInDim S1x1x1024 ![2] bcast_S1024_S1x1x1024_2 g))) (broadcastInDim S1x16384x1024 ![0, 1, 2] bcast_S1x1x1024_S1x16384x1024_0_1_2 (broadcastInDim S1x1x1024 ![2] bcast_S1024_S1x1x1024_2 b))

/-- The time mixing's rows. -/
def A (f b u g : FVec Ideal S16384x1024 .bf16) (lg lb : FVec Ideal S1024 .f32) : FVec Ideal S16384x1024 .f32 :=
  mulf (addf (shapeCast _ (addf (G f lg lb) (G b lg lb)) shapeCasts_S1x16384x1024_S16384x1024) (extf .f32 u bitsLt_bf16_f32)) (extf .f32 g bitsLt_bf16_f32)

/-- The rows after the merge. -/
def REF (x : FVec Ideal S16384x2048 .f32) (f b u g o : FVec Ideal S16384x1024 .bf16) (ga : FVec Ideal S16384x4096 .bf16) (lg lb : FVec Ideal S1024 .f32) (wa wb : FVec Ideal S1024x2048 .f32) (wo : FVec Ideal S2048x2048 .f32) : FVec Ideal S16384x2048 .f32 :=
  addf x (Host.dotGeneral dot_S16384x2048_S2048x2048_S16384x2048_1_0_0_1_n_n none (addf (mulf (extractStridedSlice S16384x2048 ![0, 0] (extf .f32 ga bitsLt_bf16_f32) slices_S16384x4096_S16384x2048_0_0) (Host.dotGeneral dot_S16384x1024_S1024x2048_S16384x2048_1_0_0_1_n_n none (A f b u g lg lb) wa)) (mulf (extractStridedSlice S16384x2048 ![0, 2048] (extf .f32 ga bitsLt_bf16_f32) slices_S16384x4096_S16384x2048_0_2048) (Host.dotGeneral dot_S16384x1024_S1024x2048_S16384x2048_1_0_0_1_n_n none (extf .f32 o bitsLt_bf16_f32) wb))) wo)

/-- Column `n` of head `h`. -/
def cl (h : Fin 16) (n : Fin 64) : Fin 1024 := ⟨64 * h.val + n.val, by omega⟩

theorem at64_cl (h : Fin 16) (n k : Fin 64) : at64 (cl h n) k = cl h k := Fin.ext (by simp only [at64, cl]; omega)

theorem X_at (x : FVec Ideal S16384x1024 .bf16) (R : Fin 16384) (h : Fin 16) (n : Fin 64) : X x (ix4 0 R h n) = x (ix2 R (cl h n)) := by
  unfold X
  pointwise
  refine congrArg x (congrArg (ix2 R) (Fin.ext ?_))
  simp only [cl]
  try omega

theorem C_at (x : FVec Ideal S16384x1024 .bf16) (R : Fin 16384) (h : Fin 16) (n : Fin 64) :
    C x (ix4 0 R h n) = cen (fun e => x (ix2 R e)) (cl h n) := by
  unfold C
  pointwise
  simp only [X_at]
  unfold cen hsum
  simp only [at64_cl]
  rfl

theorem Y_at (x : FVec Ideal S16384x1024 .bf16) (R : Fin 16384) (h : Fin 16) (n : Fin 64) :
    Y x (ix4 0 R h n) = cen (fun e => x (ix2 R e)) (cl h n)
      * Ideal.rsqrt (Ideal.div (hsum (fun e => cen (fun e => x (ix2 R e)) e * cen (fun e => x (ix2 R e)) e) (cl h n)) len + eps) := by
  unfold Y
  pointwise
  simp only [C_at]
  unfold hsum
  simp only [at64_cl]
  rfl

theorem G_at (x : FVec Ideal S16384x1024 .bf16) (g b : FVec Ideal S1024 .f32) (R : Fin 16384) (d : Fin 1024) :
    G x g b (ix3 0 R d) = gn (fun e => x (ix2 R e)) (fun e => g (ix1 e)) (fun e => b (ix1 e)) d := by
  have hd : cl ⟨d.val / 64, by omega⟩ ⟨d.val % 64, by omega⟩ = d := Fin.ext (by simp only [cl]; omega)
  have h := Y_at x R ⟨d.val / 64, by omega⟩ ⟨d.val % 64, by omega⟩
  rw [hd] at h
  unfold G
  pointwise
  rw [h]
  rfl

theorem A_at (f b u g : FVec Ideal S16384x1024 .bf16) (lg lb : FVec Ideal S1024 .f32) (R : Fin 16384) (d : Fin 1024) :
    A f b u g lg lb (ix2 R d) = mix (fun e => f (ix2 R e)) (fun e => b (ix2 R e)) (fun e => u (ix2 R e)) (fun e => g (ix2 R e)) (fun e => lg (ix1 e)) (fun e => lb (ix1 e)) d := by
  unfold A
  pointwise
  simp only [G_at]
  rfl

theorem REF_at (x : FVec Ideal S16384x2048 .f32) (f b u g o : FVec Ideal S16384x1024 .bf16) (ga : FVec Ideal S16384x4096 .bf16) (lg lb : FVec Ideal S1024 .f32) (wa wb : FVec Ideal S1024x2048 .f32) (wo : FVec Ideal S2048x2048 .f32) (R : Fin 16384) (d : Fin 2048) :
    REF x f b u g o ga lg lb wa wb wo (ix2 R d) = out (x (ix2 R d)) (fun k => mix (fun e => f (ix2 R e)) (fun e => b (ix2 R e)) (fun e => u (ix2 R e)) (fun e => g (ix2 R e)) (fun e => lg (ix1 e)) (fun e => lb (ix1 e)) k)
      (fun k => o (ix2 R k)) (fun e => ga (ix2 R ⟨e.val, by omega⟩)) (fun e => ga (ix2 R ⟨2048 + e.val, by omega⟩)) (fun k e => wa (ix2 k e)) (fun k e => wb (ix2 k e)) (fun e => wo (ix2 e d)) := by
  unfold REF
  pointwise
  simp only [A_at]
  rfl

end Cert.Merge.Plain

namespace Cert.Merge

open Cert.Kernel6Ideal Cert.Kernel6Ideal.Gen Idealize.ShloMosaic Idealize.ShloMosaic.TcCoe Cert.Head
open Idealize.ShloMosaic.Pipeline (Dat)
open scoped BigOperators

/-- A block of the time mixing's rows. -/
def MIX (f b u g : Vec Ideal S256x1024 .bf16) (lg lb : Vec Ideal S1x1024 .f32) : FVec Ideal S256x1024 .f32 :=
  mulf (addf (addf (GN f lg lb) (GN b lg lb)) u) g

/-- A block of rows after the merge. -/
def OUT (x : Vec Ideal S256x2048 .f32) (a o : Vec Ideal S256x1024 .bf16) (ga gb : Vec Ideal S256x2048 .bf16) (wa wb : Vec Ideal S1024x2048 .bf16) (wo : Vec Ideal S2048x2048 .bf16) : FVec Ideal S256x2048 .f32 :=
  k0_pay1 (F := Ideal) (k0_pay26 a wa) (k0_pay26 o wb) ga gb x wo

theorem MIX_at (f b u g : Vec Ideal S256x1024 .bf16) (lg lb : Vec Ideal S1x1024 .f32) (r : Fin 256) (k : Fin 1024) :
    MIX f b u g lg lb (ix2 r k) = mix (fun e => f (ix2 r e)) (fun e => b (ix2 r e)) (fun e => u (ix2 r e)) (fun e => g (ix2 r e)) (fun e => lg (ix2 0 e)) (fun e => lb (ix2 0 e)) k := by
  unfold MIX
  pointwise
  rw [GN_at, GN_at]
  rfl

theorem OUT_at (x : Vec Ideal S256x2048 .f32) (a o : Vec Ideal S256x1024 .bf16) (ga gb : Vec Ideal S256x2048 .bf16) (wa wb : Vec Ideal S1024x2048 .bf16) (wo : Vec Ideal S2048x2048 .bf16) (r : Fin 256) (d : Fin 2048) :
    OUT x a o ga gb wa wb wo (ix2 r d) = out (x (ix2 r d)) (fun k => a (ix2 r k)) (fun k => o (ix2 r k)) (fun e => ga (ix2 r e)) (fun e => gb (ix2 r e)) (fun k e => wa (ix2 k e)) (fun k e => wb (ix2 k e)) (fun e => wo (ix2 e d)) := by
  unfold OUT
  pointwise [k0_pay1, k0_pay26]
  rfl

theorem pay2_eq (v : Vec Ideal S1x1024 .f32) : k0_pay2 (F := Ideal) v = v := shapeCast_self _ _

theorem pay3_eq (v : Vec Ideal S1x1024 .f32) : k0_pay3 (F := Ideal) v = v := shapeCast_self _ _

theorem ld0 (v : Vec Ideal S1x1024 .f32) : View.ld v r0_0 = v := View.ld_unit_lit _ v (by decide)
theorem ld1 (v : Vec Ideal S256x1024 .bf16) : View.ld v r0_1 = v := View.ld_unit_lit _ v (by decide)
theorem ld2 (v : Vec Ideal S1024x2048 .bf16) : View.ld v r0_2 = v := View.ld_unit_lit _ v (by decide)
theorem ld3 (v : Vec Ideal S256x2048 .f32) : View.ld v r0_3 = v := View.ld_unit_lit _ v (by decide)
theorem ld3b (v : Vec Ideal S256x2048 .bf16) : View.ld v r0_3 = v := View.ld_unit_lit _ v (by decide)
theorem ld4 (v : Vec Ideal S2048x2048 .bf16) : View.ld v r0_4 = v := View.ld_unit_lit _ v (by decide)

/-- What the body leaves in the output block. -/
theorem out_eq (x0 : Vec Ideal S256x2048 .f32) (x1 x2 x3 x4 x5 : Vec Ideal S256x1024 .bf16) (x6 x7 : Vec Ideal S256x2048 .bf16) (x8 x9 : Vec Ideal S1x1024 .f32) (x10 x11 : Vec Ideal S1024x2048 .bf16) (x12 : Vec Ideal S2048x2048 .bf16) :
    out0_13 (F := Ideal) x0 x1 x2 x3 x4 x5 x6 x7 x8 x9 x10 x11 x12 = OUT x0 (MIX x1 x2 x3 x4 x8 x9) x5 x6 x7 x10 x11 x12 := by
  unfold out0_13
  frame_open
  frame_out
  simp only [k0_pay27, k0_pay28, k0_pay29, k0_pay30, k0_pay31, k0_pay32, k0_pay33, k0_pay34, k0_pay35, k0_pay36, k0_pay37, k0_pay38, k0_pay39, k0_pay40, k0_pay41, pay2_eq, pay3_eq, ld0, ld1, ld2, ld3, ld3b, ld4]
  rfl

variable (m : (ℓ : Loc nD τ sig) → Buf (Elt Ideal) ℓ) (c : Dev nD)

/-- Each window's block at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 1] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

theorem t_lt (t : Fin cfg0.N) : t.val < 64 := t.isLt

def row (t : Fin cfg0.N) (r : Fin 256) : Fin 16384 := ⟨256 * t.val + r.val, by have := t_lt t; omega⟩

theorem x_at (t : Fin cfg0.N) (r : Fin 256) (k : Fin 2048) : iblk m c 0 t (ix2 r k) = m ((c : Thread nD τ).loc main_arg0) (ix2 (row t r) k) := by
  unfold row
  blk_point [iblk, V, idx t]

theorem f_at (t : Fin cfg0.N) (r : Fin 256) (k : Fin 1024) : iblk m c 1 t (ix2 r k) = m ((c : Thread nD τ).loc main_arg1) (ix2 (row t r) k) := by
  unfold row
  blk_point [iblk, V, idx t]

theorem b_at (t : Fin cfg0.N) (r : Fin 256) (k : Fin 1024) : iblk m c 2 t (ix2 r k) = m ((c : Thread nD τ).loc main_arg2) (ix2 (row t r) k) := by
  unfold row
  blk_point [iblk, V, idx t]

theorem u_at (t : Fin cfg0.N) (r : Fin 256) (k : Fin 1024) : iblk m c 3 t (ix2 r k) = m ((c : Thread nD τ).loc main_arg3) (ix2 (row t r) k) := by
  unfold row
  blk_point [iblk, V, idx t]

theorem g_at (t : Fin cfg0.N) (r : Fin 256) (k : Fin 1024) : iblk m c 4 t (ix2 r k) = m ((c : Thread nD τ).loc main_arg4) (ix2 (row t r) k) := by
  unfold row
  blk_point [iblk, V, idx t]

theorem o_at (t : Fin cfg0.N) (r : Fin 256) (k : Fin 1024) : iblk m c 5 t (ix2 r k) = m ((c : Thread nD τ).loc main_arg5) (ix2 (row t r) k) := by
  unfold row
  blk_point [iblk, V, idx t]

theorem ga_at (t : Fin cfg0.N) (r : Fin 256) (e : Fin 2048) : iblk m c 6 t (ix2 r e) = m ((c : Thread nD τ).loc main_arg6) (ix2 (row t r) ⟨e.val, by omega⟩) := by
  unfold row
  blk_point [iblk, V, idx t]

theorem gb_at (t : Fin cfg0.N) (r : Fin 256) (e : Fin 2048) : iblk m c 7 t (ix2 r e) = m ((c : Thread nD τ).loc main_arg6) (ix2 (row t r) ⟨2048 + e.val, by omega⟩) := by
  unfold row
  blk_point [iblk, V, idx t]

theorem lg_at (t : Fin cfg0.N) (k : Fin 1024) : iblk m c 8 t (ix2 0 k) = m ((c : Thread nD τ).loc main_arg7) (ix1 k) := by
  have h : iblk m c 8 t (ix2 0 k) = V m c main_v0 (ix2 0 k) := by
    blk_point [iblk, idx t]
  rw [h]
  entry_read
  pointwise
  done

theorem lb_at (t : Fin cfg0.N) (k : Fin 1024) : iblk m c 9 t (ix2 0 k) = m ((c : Thread nD τ).loc main_arg8) (ix1 k) := by
  have h : iblk m c 9 t (ix2 0 k) = V m c main_v1 (ix2 0 k) := by
    blk_point [iblk, idx t]
  rw [h]
  entry_read
  pointwise
  done

theorem wa_at (t : Fin cfg0.N) (k : Fin 1024) (e : Fin 2048) : iblk m c 10 t (ix2 k e) = m ((c : Thread nD τ).loc main_arg9) (ix2 k e) := by
  have h : iblk m c 10 t (ix2 k e) = V m c main_v2 (ix2 k e) := by
    blk_point [iblk, idx t]
  rw [h]
  entry_read
  pointwise
  done

theorem wb_at (t : Fin cfg0.N) (k : Fin 1024) (e : Fin 2048) : iblk m c 11 t (ix2 k e) = m ((c : Thread nD τ).loc main_arg10) (ix2 k e) := by
  have h : iblk m c 11 t (ix2 k e) = V m c main_v3 (ix2 k e) := by
    blk_point [iblk, idx t]
  rw [h]
  entry_read
  pointwise
  done

theorem wo_at (t : Fin cfg0.N) (k e : Fin 2048) : iblk m c 12 t (ix2 k e) = m ((c : Thread nD τ).loc main_arg11) (ix2 k e) := by
  have h : iblk m c 12 t (ix2 k e) = V m c main_v4 (ix2 k e) := by
    blk_point [iblk, idx t]
  rw [h]
  entry_read
  pointwise
  done

/-- THE RESULT ARRAY is the reference's term of the arguments. -/
theorem final : (dats m 0 c).arrAt 13 (cfgs 0).N = Plain.REF (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) := by
  refine (dats m 0 c).arrAt_eq_of_covers 13 _ (by decide +kernel) fun t _ y => ?_
  blk_simp
  rw [after0_13]
  obtain ⟨r, d, rfl⟩ : ∃ (r : Fin 256) (d : Fin 2048), y = ix2 r d := ⟨y 0, y 1, by funext d; fin_cases d <;> rfl⟩
  have he : (win0_13.blk t).view.emb (ix2 r d) = ix2 (row t r) d := by
    unfold row
    blk_ext [idx t]
  rw [he, Plain.REF_at, out_eq, OUT_at]
  simp only [MIX_at, x_at, f_at, b_at, u_at, g_at, o_at, ga_at, gb_at, lg_at, lb_at, wa_at, wb_at, wo_at]

end Cert.Merge

end
-- ==== Proof.PrepFrameBits.lean ====
/- The preparation of the queries, keys and values, for `Kernel7`: from the run of the body to the frame of the whole launch. -/
module

public import proofs.«01_k».proof.Proof.PrepRunBits
public import Idealize.ShloMosaic.Lib.Pipeline.Value
public import Idealize.ShloMosaic.Lib.Claim

@[expose] public section

set_option maxRecDepth 16384

noncomputable section

namespace Cert.Kernel7.Prep

open Cert.Kernel7 Cert.Kernel7.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec F S1x512x2048 .f32) (x1 : Vec F S1x2048 .f32) (x2 : Vec F S2048x1280 .bf16) (x3 : Vec F S1x512 .f32)
  (x4 : Vec F S1x512 .f32) (x5 : Vec F S512x1024 .bf16) (x6 : Vec F S512x1024 .bf16) (x7 : Vec F S512x1024 .bf16)
  (x8 : Vec F S512x1024 .bf16) (x9 : Vec F S512x1024 .bf16) (x10 : Vec F S1x192 .f32) (x11 : Vec F S1x128 .f32)
  (x12 : Vec F S1x128 .f32) (x13 : Vec F S1x192 .f32) (x14 : Vec F S1x128 .f32) (x15 : Vec F S1x128 .f32)
  (x16 : Vec F S512x128 .f32) (x17 : Vec F S512x128 .f32)

/-- The pieces of the queries cover their block. -/
theorem cover18 (y : S1x8x512x192.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1, y ∈ pc.1.set :=
  View.cover_of_tiledBy _ ![1, 1, 512, 64] (by sl_kernel_rfl) y

/-- What the run leaves in the staging buffer of the queries. -/
def out18 : Vec F S1x8x512x192 .bf16 :=
  VO0_18.read (Elt F) (VO0_18.writes (Elt F) VO0_18.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1)

/-- The pieces of the keys cover their block. -/
theorem cover19 (y : S1x8x512x192.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.1, y ∈ pc.1.set :=
  View.cover_of_tiledBy _ ![1, 1, 512, 64] (by sl_kernel_rfl) y

/-- What the run leaves in the staging buffer of the keys. -/
def out19 : Vec F S1x8x512x192 .bf16 :=
  VO0_19.read (Elt F) (VO0_19.writes (Elt F) VO0_19.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.1)

/-- The pieces of the values cover their block. -/
theorem cover20 (y : S1x8x512x256.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1 S1x1x512x128.size (by sl_kernel_rfl) y

/-- What the run leaves in the staging buffer of the values. -/
def out20 : Vec F S1x8x512x256 .bf16 :=
  VO0_20.read (Elt F) (VO0_20.writes (Elt F) VO0_20.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1)

end

variable (m : (ℓ : Loc nD τ sig) → Buf (Elt F) ℓ) (ρ : Dev nD → PrngReg)

/-! ## What the outputs hold after each point -/

/-- What the staging buffers of the results hold after the body at point `t`. -/
def outsAt0 (c : Dev nD) (t : Fin cfg0.N) : Vec F S1x8x512x192 .bf16 × Vec F S1x8x512x192 .bf16 × Vec F S1x8x512x256 .bf16 :=
  (out18 c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t)
      (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t)
      (hs0_19 t) (ms0_20 t) (hs0_20 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t), out19 c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t)
      (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t)
      (hs0_19 t) (ms0_20 t) (hs0_20 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t), out20 c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t)
      (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t)
      (hs0_19 t) (ms0_20 t) (hs0_20 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t))

/-! ## The pipeline's proof data -/

/-- The data of the pipeline on core `c`: the arrays as the region finds them; after point `t` each argument's buffer at its
    block and the results' buffers at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2
    | ⟨_ + 21, h⟩ => absurd h (Nat.not_lt.2 (Nat.le_add_left _ _))
  Φ _ := Pipeline.ΦA spec0 c
  q _ := fullShare
  owed _ := 0

/-- The arrays of the data are the contents at the entry of the region. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2 := by dsimp only [dats]

/-- Each argument's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the arguments' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out18 out19 out20; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((bodyRun c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The row of the table of bodies at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the library computes from the data above, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The nine arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every fair execution ends, with the nine arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel7.Prep

end
-- ==== Proof.PrepRun.lean ====
/- The preparation of the queries, keys and values, for `Kernel7Ideal`: what the body of the kernel does to the three staging
   buffers of its results, for any carrier of the floats and any memrefs. The generated modules hold the skeleton of the body and
   the launch of the pipeline; the run of the body and, in the module after this one, the frame are given here. -/
module

public import proofs.«01_k».proof.Proof.Gen.Kernel7Ideal.Frame.Runs

@[expose] public section

set_option maxRecDepth 16384

noncomputable section

namespace Cert.Kernel7Ideal.Prep

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec F S1x512x2048 .f32) (x1 : Vec F S1x2048 .f32) (x2 : Vec F S2048x1280 .bf16) (x3 : Vec F S1x512 .f32)
  (x4 : Vec F S1x512 .f32) (x5 : Vec F S512x1024 .bf16) (x6 : Vec F S512x1024 .bf16) (x7 : Vec F S512x1024 .bf16)
  (x8 : Vec F S512x1024 .bf16) (x9 : Vec F S512x1024 .bf16) (x10 : Vec F S1x192 .f32) (x11 : Vec F S1x128 .f32)
  (x12 : Vec F S1x128 .f32) (x13 : Vec F S1x192 .f32) (x14 : Vec F S1x128 .f32) (x15 : Vec F S1x128 .f32)
  (x16 : Vec F S512x128 .f32) (x17 : Vec F S512x128 .f32)

set_option maxHeartbeats 8000000 in
/-- The run of the body. Three lists of pieces (a piece is a rectangle with the values stored there, the last store first), one for
    the queries, one for the keys, one for the values; with the proof that from the eighteen arguments and any contents of the three
    result buffers the body runs to its end, leaves the arguments as they were and each result buffer with its pieces stored. -/
def bodyRun :
    Σ' (L18 : List (View.Piece (Elt F) S1x8x512x192 .bf16)), Σ' (L19 : List (View.Piece (Elt F) S1x8x512x192 .bf16)), { L20 : List (View.Piece (Elt F) S1x8x512x256 .bf16) //
      ∀ (E : Set ℕ) (K : PUnit → sProp 𝕄),
        iprop(owns (c : Thread nD τ) arg2 fullShare x0 ∗
              owns (c : Thread nD τ) arg3 fullShare x1 ∗
              owns (c : Thread nD τ) arg4 fullShare x2 ∗
              owns (c : Thread nD τ) arg5 fullShare x3 ∗
              owns (c : Thread nD τ) arg6 fullShare x4 ∗
              owns (c : Thread nD τ) arg7 fullShare x5 ∗
              owns (c : Thread nD τ) arg8 fullShare x6 ∗
              owns (c : Thread nD τ) arg9 fullShare x7 ∗
              owns (c : Thread nD τ) arg10 fullShare x8 ∗
              owns (c : Thread nD τ) arg11 fullShare x9 ∗
              owns (c : Thread nD τ) arg12 fullShare x10 ∗
              owns (c : Thread nD τ) arg13 fullShare x11 ∗
              owns (c : Thread nD τ) arg14 fullShare x12 ∗
              owns (c : Thread nD τ) arg15 fullShare x13 ∗
              owns (c : Thread nD τ) arg16 fullShare x14 ∗
              owns (c : Thread nD τ) arg17 fullShare x15 ∗
              owns (c : Thread nD τ) arg18 fullShare x16 ∗
              owns (c : Thread nD τ) arg19 fullShare x17 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗
              owns (c : Thread nD τ) arg3 fullShare x1 ∗
              owns (c : Thread nD τ) arg4 fullShare x2 ∗
              owns (c : Thread nD τ) arg5 fullShare x3 ∗
              owns (c : Thread nD τ) arg6 fullShare x4 ∗
              owns (c : Thread nD τ) arg7 fullShare x5 ∗
              owns (c : Thread nD τ) arg8 fullShare x6 ∗
              owns (c : Thread nD τ) arg9 fullShare x7 ∗
              owns (c : Thread nD τ) arg10 fullShare x8 ∗
              owns (c : Thread nD τ) arg11 fullShare x9 ∗
              owns (c : Thread nD τ) arg12 fullShare x10 ∗
              owns (c : Thread nD τ) arg13 fullShare x11 ∗
              owns (c : Thread nD τ) arg14 fullShare x12 ∗
              owns (c : Thread nD τ) arg15 fullShare x13 ∗
              owns (c : Thread nD τ) arg16 fullShare x14 ∗
              owns (c : Thread nD τ) arg17 fullShare x15 ∗
              owns (c : Thread nD τ) arg18 fullShare x16 ∗
              owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20)) -∗ K ⟨⟩))
          ⊢ wp frame (wpE (defs₀ (F := F)) Variants.none c none) E (cc0_mla_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc0_mla_prep_eq_skeleton]; unfold cc0_mla_prep_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    iexists _; iexact H20

end Cert.Kernel7Ideal.Prep

end
-- ==== Proof.PrepBlock.lean ====
/-
  The preparation of the queries, keys and values: what one block of the kernel leaves, entry by entry.
-/
module

public import proofs.«01_k».proof.Proof.PrepRun
public import Idealize.ShloMosaic.Lib.Pipeline.ValueKit
public import Idealize.ShloMosaic.Lib.Pipeline.ReadBack

@[expose] public section

set_option maxRecDepth 16384

noncomputable section

namespace Cert.Prep.Block

open Cert.Kernel7Ideal Cert.Kernel7Ideal.Gen Idealize.ShloMosaic Idealize.ShloMosaic.TcCoe
open scoped BigOperators

/-- The 128 columns of head `h`. -/
def cut (a : FVec Ideal S512x1024 .f32) (h : Fin 8) : FVec Ideal S512x128 .f32 :=
  fun i => a (ix2 (i 0) ⟨128 * h.val + (i 1).val, by have := (i 1).isLt; have := h.isLt; simp at *; omega⟩)

theorem cut_at (a : FVec Ideal S512x1024 .f32) (h : Fin 8) (r : Fin 512) (d : Fin 128) : cut a h (ix2 r d) = a (ix2 r ⟨128 * h.val + d.val, by omega⟩) := rfl

theorem cut0 (a : FVec Ideal S512x1024 .f32) (hs : S512x1024.Slices ![0, 0] S512x128) : extractStridedSlice S512x128 ![0, 0] a hs = cut a 0 := by
  funext i
  obtain ⟨r, d, rfl⟩ : ∃ (r : Fin 512) (d : Fin 128), i = ix2 r d := ⟨i 0, i 1, by funext d; fin_cases d <;> rfl⟩
  rw [cut_at]
  pointwise
  done

theorem cut1 (a : FVec Ideal S512x1024 .f32) (hs : S512x1024.Slices ![0, 128] S512x128) : extractStridedSlice S512x128 ![0, 128] a hs = cut a 1 := by
  funext i
  obtain ⟨r, d, rfl⟩ : ∃ (r : Fin 512) (d : Fin 128), i = ix2 r d := ⟨i 0, i 1, by funext d; fin_cases d <;> rfl⟩
  rw [cut_at]
  pointwise
  done

theorem cut2 (a : FVec Ideal S512x1024 .f32) (hs : S512x1024.Slices ![0, 256] S512x128) : extractStridedSlice S512x128 ![0, 256] a hs = cut a 2 := by
  funext i
  obtain ⟨r, d, rfl⟩ : ∃ (r : Fin 512) (d : Fin 128), i = ix2 r d := ⟨i 0, i 1, by funext d; fin_cases d <;> rfl⟩
  rw [cut_at]
  pointwise
  done

theorem cut3 (a : FVec Ideal S512x1024 .f32) (hs : S512x1024.Slices ![0, 384] S512x128) : extractStridedSlice S512x128 ![0, 384] a hs = cut a 3 := by
  funext i
  obtain ⟨r, d, rfl⟩ : ∃ (r : Fin 512) (d : Fin 128), i = ix2 r d := ⟨i 0, i 1, by funext d; fin_cases d <;> rfl⟩
  rw [cut_at]
  pointwise
  done

theorem cut4 (a : FVec Ideal S512x1024 .f32) (hs : S512x1024.Slices ![0, 512] S512x128) : extractStridedSlice S512x128 ![0, 512] a hs = cut a 4 := by
  funext i
  obtain ⟨r, d, rfl⟩ : ∃ (r : Fin 512) (d : Fin 128), i = ix2 r d := ⟨i 0, i 1, by funext d; fin_cases d <;> rfl⟩
  rw [cut_at]
  pointwise
  done

theorem cut5 (a : FVec Ideal S512x1024 .f32) (hs : S512x1024.Slices ![0, 640] S512x128) : extractStridedSlice S512x128 ![0, 640] a hs = cut a 5 := by
  funext i
  obtain ⟨r, d, rfl⟩ : ∃ (r : Fin 512) (d : Fin 128), i = ix2 r d := ⟨i 0, i 1, by funext d; fin_cases d <;> rfl⟩
  rw [cut_at]
  pointwise
  done

theorem cut6 (a : FVec Ideal S512x1024 .f32) (hs : S512x1024.Slices ![0, 768] S512x128) : extractStridedSlice S512x128 ![0, 768] a hs = cut a 6 := by
  funext i
  obtain ⟨r, d, rfl⟩ : ∃ (r : Fin 512) (d : Fin 128), i = ix2 r d := ⟨i 0, i 1, by funext d; fin_cases d <;> rfl⟩
  rw [cut_at]
  pointwise
  done

theorem cut7 (a : FVec Ideal S512x1024 .f32) (hs : S512x1024.Slices ![0, 896] S512x128) : extractStridedSlice S512x128 ![0, 896] a hs = cut a 7 := by
  funext i
  obtain ⟨r, d, rfl⟩ : ∃ (r : Fin 512) (d : Fin 128), i = ix2 r d := ⟨i 0, i 1, by funext d; fin_cases d <;> rfl⟩
  rw [cut_at]
  pointwise
  done

section
variable (a b e e' : FVec Ideal S512x128 .f32) (f ss : FVec Ideal S512x1 .f32) (cs sn : FVec Ideal S512x128 .f32) (g g1 g2 : FVec Ideal S1x128 .f32)

/-- The factor of a head of the queries, from its two parts. -/
def QF : FVec Ideal S512x1 .f32 := k0_pay52 a b

/-- The factor of a head of the keys, from its first part and the sum of squares of the shared part. -/
def KF : FVec Ideal S512x1 .f32 :=
  rsqrt (addf (divf (addf (shapeCast S512x1 (multiReduction .add [1] S512 (mulf a a) 0x00000000#32 reduces_S512x128_S512 (.inl rfl) rfl) shapeCasts_S512_S512x1) ss) (broadcast S512x1 (Scalar.ofBits .f32 0x43400000#32))) (broadcast S512x1 (Scalar.ofBits .f32 0x358637BD#32)))

/-- A first part scaled by the factor and the gains. -/
def KN : FVec Ideal S1x1x512x128 .bf16 :=
  shapeCast S1x1x512x128 (truncf .bf16 (mulf (mulf a (broadcastTo S512x128 f broadcasts_S512x1_S512x128)) (broadcastTo S512x128 (shapeCast S1x128 g shapeCasts_S1x128_S1x128) broadcasts_S1x128_S512x128)) bitsLt_bf16_f32) shapeCasts_S512x128_S1x1x512x128

/-- A first part of the queries. -/
def QN : FVec Ideal S1x1x512x128 .bf16 :=
  shapeCast S1x1x512x128 (truncf .bf16 (mulf (mulf (mulf a (broadcastTo S512x128 f broadcasts_S512x1_S512x128)) (broadcastTo S512x128 (shapeCast S1x128 g shapeCasts_S1x128_S1x128) broadcasts_S1x128_S512x128)) (broadcast S512x128 (Scalar.ofBits .f32 0x3DD53B95#32))) bitsLt_bf16_f32) shapeCasts_S512x128_S1x1x512x128

/-- A last part of the keys, turned. -/
def KR : FVec Ideal S1x1x512x64 .bf16 := k0_pay46 e e' cs sn f g1 g2

/-- A last part of the queries, turned. -/
def QR : FVec Ideal S1x1x512x64 .bf16 := k0_pay40 cs sn e e' f g1 g2

/-- A head of the values. -/
def VN : FVec Ideal S1x1x512x128 .bf16 := shapeCast S1x1x512x128 (truncf .bf16 a bitsLt_bf16_f32) shapeCasts_S512x128_S1x1x512x128

theorem QF_at (r : Fin 512) : QF a b (ix2 r 0) = Ideal.rsqrt (Ideal.div (∑ k, a (ix2 r k) * a (ix2 r k) + ∑ k, b (ix2 r k) * b (ix2 r k)) (Ideal.ofBits .f32 0x43400000#32) + Ideal.ofBits .f32 0x358637BD#32) := by
  pointwise [QF, k0_pay52]
  done

theorem KF_at (r : Fin 512) : KF a ss (ix2 r 0) = Ideal.rsqrt (Ideal.div (∑ k, a (ix2 r k) * a (ix2 r k) + ss (ix2 r 0)) (Ideal.ofBits .f32 0x43400000#32) + Ideal.ofBits .f32 0x358637BD#32) := by
  pointwise [KF]
  done

theorem KN_at (r : Fin 512) (d : Fin 128) : KN a f g (ix4 0 0 r d) = a (ix2 r d) * f (ix2 r 0) * g (ix2 0 d) := by
  pointwise [KN]
  done

theorem QN_at (r : Fin 512) (d : Fin 128) : QN a f g (ix4 0 0 r d) = a (ix2 r d) * f (ix2 r 0) * g (ix2 0 d) * Ideal.ofBits .f32 0x3DD53B95#32 := by
  pointwise [QN]
  done

theorem KR_at (r : Fin 512) (d : Fin 64) : KR e e' f cs sn g1 g2 (ix4 0 0 r d)
    = e (ix2 r ⟨d.val, by omega⟩) * f (ix2 r 0) * g1 (ix2 0 ⟨d.val, by omega⟩) * cs (ix2 r ⟨d.val, by omega⟩)
      + e' (ix2 r ⟨d.val, by omega⟩) * f (ix2 r 0) * g2 (ix2 0 ⟨d.val, by omega⟩) * sn (ix2 r ⟨d.val, by omega⟩) := by
  pointwise [KR, k0_pay46]
  done

theorem QR_at (r : Fin 512) (d : Fin 64) : QR e e' f cs sn g1 g2 (ix4 0 0 r d)
    = (e (ix2 r ⟨d.val, by omega⟩) * f (ix2 r 0) * g1 (ix2 0 ⟨d.val, by omega⟩) * cs (ix2 r ⟨d.val, by omega⟩)
      + e' (ix2 r ⟨d.val, by omega⟩) * f (ix2 r 0) * g2 (ix2 0 ⟨d.val, by omega⟩) * sn (ix2 r ⟨d.val, by omega⟩)) * Ideal.ofBits .f32 0x3DD53B95#32 := by
  pointwise [QR, k0_pay40]
  done

theorem VN_at (r : Fin 512) (d : Fin 128) : VN a (ix4 0 0 r d) = a (ix2 r d) := by
  pointwise [VN]
  done
end

/-- The eight heads side by side: 128 columns and 64 columns for each. -/
def join192 (W : Fin 8 → FVec Ideal S1x1x512x128 .bf16) (R : Fin 8 → FVec Ideal S1x1x512x64 .bf16) : Vec Ideal S1x8x512x192 .bf16 :=
  fun y => if h : (y 3).val < 128 then W (y 1) (ix4 0 0 (y 2) ⟨(y 3).val, h⟩) else R (y 1) (ix4 0 0 (y 2) ⟨(y 3).val - 128, by have : (y 3).val < 192 := (y 3).isLt; omega⟩)

/-- The eight heads side by side: twice 128 columns for each. -/
def join256 (W R : Fin 8 → FVec Ideal S1x1x512x128 .bf16) : Vec Ideal S1x8x512x256 .bf16 :=
  fun y => if h : (y 3).val < 128 then W (y 1) (ix4 0 0 (y 2) ⟨(y 3).val, h⟩) else R (y 1) (ix4 0 0 (y 2) ⟨(y 3).val - 128, by have : (y 3).val < 256 := (y 3).isLt; omega⟩)

theorem ix4_eta {a b : ℕ} (x : Shape.Idx ⟨4, ![1, 1, a, b]⟩) (r : Fin a) (d : Fin b) (h2 : r.val = (x 2).val) (h3 : d.val = (x 3).val) : x = ix4 0 0 r d := by
  funext k
  fin_cases k
  · exact Subsingleton.elim (α := Fin 1) _ _
  · exact Subsingleton.elim (α := Fin 1) _ _
  · exact Fin.ext h2.symm
  · exact Fin.ext h3.symm

theorem join192_lo (W : Fin 8 → FVec Ideal S1x1x512x128 .bf16) (R : Fin 8 → FVec Ideal S1x1x512x64 .bf16) (y : S1x8x512x192.Idx) (x : S1x1x512x128.Idx) (k : Fin 8)
    (h1 : (y 1).val = k.val) (h2 : (y 2).val = (x 2).val) (h3 : (y 3).val = (x 3).val) : W k x = join192 W R y := by
  have hx : (x 3).val < 128 := (x 3).isLt
  unfold join192
  rw [dif_pos (by omega), ← ix4_eta x _ _ h2 h3, Fin.ext (a := y 1) (b := k) h1]

theorem join192_hi (W : Fin 8 → FVec Ideal S1x1x512x128 .bf16) (R : Fin 8 → FVec Ideal S1x1x512x64 .bf16) (y : S1x8x512x192.Idx) (x : S1x1x512x64.Idx) (k : Fin 8)
    (h1 : (y 1).val = k.val) (h2 : (y 2).val = (x 2).val) (h3 : (y 3).val = 128 + (x 3).val) : R k x = join192 W R y := by
  unfold join192
  rw [dif_neg (by omega), ← ix4_eta x _ _ h2 (by simp only; omega), Fin.ext (a := y 1) (b := k) h1]

theorem join256_lo (W R : Fin 8 → FVec Ideal S1x1x512x128 .bf16) (y : S1x8x512x256.Idx) (x : S1x1x512x128.Idx) (k : Fin 8)
    (h1 : (y 1).val = k.val) (h2 : (y 2).val = (x 2).val) (h3 : (y 3).val = (x 3).val) : W k x = join256 W R y := by
  have hx : (x 3).val < 128 := (x 3).isLt
  unfold join256
  rw [dif_pos (by omega), ← ix4_eta x _ _ h2 h3, Fin.ext (a := y 1) (b := k) h1]

theorem join256_hi (W R : Fin 8 → FVec Ideal S1x1x512x128 .bf16) (y : S1x8x512x256.Idx) (x : S1x1x512x128.Idx) (k : Fin 8)
    (h1 : (y 1).val = k.val) (h2 : (y 2).val = (x 2).val) (h3 : (y 3).val = 128 + (x 3).val) : R k x = join256 W R y := by
  unfold join256
  rw [dif_neg (by omega), ← ix4_eta x _ _ h2 (by simp only; omega), Fin.ext (a := y 1) (b := k) h1]

section
variable (x0 : Vec Ideal S1x512x2048 .f32) (x1 : Vec Ideal S1x2048 .f32) (x2 : Vec Ideal S2048x1280 .bf16) (x3 x4 : Vec Ideal S1x512 .f32) (w : Vec Ideal S512x1024 .bf16)

/-- The products of the block: the normed rows' with the combined matrix, the queries' with one matrix, the keys' and
    values' with one matrix; and the shared part of the keys, its halves swapped, and its sum of squares. -/
def Z : FVec Ideal S512x1280 .f32 := k0_pay2 x0 x1 x2
def PQ : FVec Ideal S512x1024 .f32 := k0_pay10 (k0_pay3 x0 x1 x2 x3) w
def PK : FVec Ideal S512x1024 .f32 := k0_pay13 (k0_pay4 x0 x1 x2) (k0_pay5 x4) (k0_pay6 x0 x1 x2) w
def E : FVec Ideal S512x128 .f32 := k0_pay8 (Z x0 x1 x2)
def E' : FVec Ideal S512x128 .f32 := k0_pay9 (Z x0 x1 x2)
def SS : FVec Ideal S512x1 .f32 := k0_pay19 (k0_pay18 (Z x0 x1 x2))
end

end Cert.Prep.Block
-- ==== Proof.PrepFrame.lean ====
/- The preparation of the queries, keys and values, for `Kernel7Ideal`: from the run of the body to the frame of the whole launch and the arrays it computes. -/
module

public import proofs.«01_k».proof.Proof.PrepRun
public import Idealize.ShloMosaic.Lib.Pipeline.Value
public import Idealize.ShloMosaic.Lib.Claim

@[expose] public section

set_option maxRecDepth 16384

noncomputable section

namespace Cert.Kernel7Ideal.Prep

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec F S1x512x2048 .f32) (x1 : Vec F S1x2048 .f32) (x2 : Vec F S2048x1280 .bf16) (x3 : Vec F S1x512 .f32)
  (x4 : Vec F S1x512 .f32) (x5 : Vec F S512x1024 .bf16) (x6 : Vec F S512x1024 .bf16) (x7 : Vec F S512x1024 .bf16)
  (x8 : Vec F S512x1024 .bf16) (x9 : Vec F S512x1024 .bf16) (x10 : Vec F S1x192 .f32) (x11 : Vec F S1x128 .f32)
  (x12 : Vec F S1x128 .f32) (x13 : Vec F S1x192 .f32) (x14 : Vec F S1x128 .f32) (x15 : Vec F S1x128 .f32)
  (x16 : Vec F S512x128 .f32) (x17 : Vec F S512x128 .f32)

/-- The pieces of the queries cover their block. -/
theorem cover18 (y : S1x8x512x192.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1, y ∈ pc.1.set :=
  View.cover_of_tiledBy _ ![1, 1, 512, 64] (by sl_kernel_rfl) y

/-- What the run leaves in the staging buffer of the queries. -/
def out18 : Vec F S1x8x512x192 .bf16 :=
  VO0_18.read (Elt F) (VO0_18.writes (Elt F) VO0_18.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1)

/-- The pieces of the keys cover their block. -/
theorem cover19 (y : S1x8x512x192.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.1, y ∈ pc.1.set :=
  View.cover_of_tiledBy _ ![1, 1, 512, 64] (by sl_kernel_rfl) y

/-- What the run leaves in the staging buffer of the keys. -/
def out19 : Vec F S1x8x512x192 .bf16 :=
  VO0_19.read (Elt F) (VO0_19.writes (Elt F) VO0_19.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.1)

/-- The pieces of the values cover their block. -/
theorem cover20 (y : S1x8x512x256.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1 S1x1x512x128.size (by sl_kernel_rfl) y

/-- What the run leaves in the staging buffer of the values. -/
def out20 : Vec F S1x8x512x256 .bf16 :=
  VO0_20.read (Elt F) (VO0_20.writes (Elt F) VO0_20.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1)

end

variable (m : (ℓ : Loc nD τ sig) → Buf (Elt F) ℓ) (ρ : Dev nD → PrngReg)

/-! ## What the outputs hold after each point -/

/-- What the staging buffers of the results hold after the body at point `t`. -/
def outsAt0 (c : Dev nD) (t : Fin cfg0.N) : Vec F S1x8x512x192 .bf16 × Vec F S1x8x512x192 .bf16 × Vec F S1x8x512x256 .bf16 :=
  (out18 c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t)
      (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t)
      (hs0_19 t) (ms0_20 t) (hs0_20 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t), out19 c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t)
      (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t)
      (hs0_19 t) (ms0_20 t) (hs0_20 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t), out20 c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t)
      (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t)
      (hs0_15 t) (ms0_16 t) (hs0_16 t) (ms0_17 t) (hs0_17 t) (ms0_18 t) (hs0_18 t) (ms0_19 t)
      (hs0_19 t) (ms0_20 t) (hs0_20 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t))

/-! ## The pipeline's proof data -/

/-- The data of the pipeline on core `c`: the arrays as the region finds them; after point `t` each argument's buffer at its
    block and the results' buffers at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2
    | ⟨_ + 21, h⟩ => absurd h (Nat.not_lt.2 (Nat.le_add_left _ _))
  Φ _ := Pipeline.ΦA spec0 c
  q _ := fullShare
  owed _ := 0

/-- The arrays of the data are the contents at the entry of the region. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2 := by dsimp only [dats]

/-- Each argument's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the arguments' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out18 out19 out20; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((bodyRun c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, ⟨%e18, H18⟩, ⟨%e19, H19⟩, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The row of the table of bodies at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the library computes from the data above, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The nine arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every fair execution ends, with the nine arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-- The array of window 18 after the run. -/
theorem post18 (r : PUnit × MemSt nD τ sig (Elt F)) (h : Pipeline.FramePost cfgs (dats m) 0 (V m) r) (c : Dev nD) :
    r.2.mem ((c : Thread nD τ).loc main_v79_0) = (dats m 0 c).arrAt 18 cfg0.N :=
  (h c).1 18

/-- The array of window 19 after the run. -/
theorem post19 (r : PUnit × MemSt nD τ sig (Elt F)) (h : Pipeline.FramePost cfgs (dats m) 0 (V m) r) (c : Dev nD) :
    r.2.mem ((c : Thread nD τ).loc main_v79_1) = (dats m 0 c).arrAt 19 cfg0.N :=
  (h c).1 19

/-- The array of window 20 after the run. -/
theorem post20 (r : PUnit × MemSt nD τ sig (Elt F)) (h : Pipeline.FramePost cfgs (dats m) 0 (V m) r) (c : Dev nD) :
    r.2.mem ((c : Thread nD τ).loc main_v79_2) = (dats m 0 c).arrAt 20 cfg0.N :=
  (h c).1 20

/-- Argument `main_arg0` ends as it began. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument `main_arg1` ends as it began. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument `main_arg2` ends as it began. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument `main_arg3` ends as it began. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument `main_arg4` ends as it began. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument `main_arg5` ends as it began. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument `main_arg6` ends as it began. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument `main_arg7` ends as it began. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument `main_arg8` ends as it began. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Every fair execution ends, the three results at the arrays the pipeline computes, the arguments as they were. -/
theorem run_blocks : θ_run defs (onTc (τ := τ) (main (F := F))) ⟨m, fun _ => 0, ρ⟩ fun r => ∀ c : Dev nD,
      r.2.mem ((c : Thread nD τ).loc main_v79_0) = (dats m 0 c).arrAt 18 cfg0.N
      ∧ r.2.mem ((c : Thread nD τ).loc main_v79_1) = (dats m 0 c).arrAt 19 cfg0.N
      ∧ r.2.mem ((c : Thread nD τ).loc main_v79_2) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel7Ideal.Prep

end
-- ==== Proof.PrepHeads.lean ====
/-
  The preparation of the queries, keys and values: the three results of a block, head by head.
-/
module

public import proofs.«01_k».proof.Proof.PrepBlock
public import proofs.«01_k».proof.Proof.PrepFrame

@[expose] public section

set_option maxRecDepth 16384

noncomputable section

namespace Cert.Prep.Block

open Cert.Kernel7Ideal Cert.Kernel7Ideal.Gen Cert.Kernel7Ideal.Prep Idealize.ShloMosaic Idealize.ShloMosaic.TcCoe
open scoped BigOperators
/-! The loads of a buffer that holds `v`: whole, each reads `v`; of the 192 gains, the first 128 are read. -/

theorem rd_S1x512x2048 (M : Memref sig .tc .vmem S1x512x2048 .f32) (h : M.IsWhole) (v : Vec Ideal S1x512x2048 .f32) :
    View.readAt (Elt Ideal) M.view (Rect.unit ![0, 0, 0] (no_index S1x512x2048.size) inb_S1x512x2048_S1x512x2048_0_0_0).toLoadRect (h.unread v) = v :=
  (congrArg (fun u => View.ld u _) (h.read_unread v)).trans (View.ld_unit_lit _ v (by decide))

theorem rd_S1x2048 (M : Memref sig .tc .vmem S1x2048 .f32) (h : M.IsWhole) (v : Vec Ideal S1x2048 .f32) :
    View.readAt (Elt Ideal) M.view (Rect.unit ![0, 0] (no_index S1x2048.size) inb_S1x2048_S1x2048_0_0).toLoadRect (h.unread v) = v :=
  (congrArg (fun u => View.ld u _) (h.read_unread v)).trans (View.ld_unit_lit _ v (by decide))

theorem rd_S2048x1280 (M : Memref sig .tc .vmem S2048x1280 .bf16) (h : M.IsWhole) (v : Vec Ideal S2048x1280 .bf16) :
    View.readAt (Elt Ideal) M.view (Rect.unit ![0, 0] (no_index S2048x1280.size) inb_S2048x1280_S2048x1280_0_0).toLoadRect (h.unread v) = v :=
  (congrArg (fun u => View.ld u _) (h.read_unread v)).trans (View.ld_unit_lit _ v (by decide))

theorem rd_S1x512 (M : Memref sig .tc .vmem S1x512 .f32) (h : M.IsWhole) (v : Vec Ideal S1x512 .f32) :
    View.readAt (Elt Ideal) M.view (Rect.unit ![0, 0] (no_index S1x512.size) inb_S1x512_S1x512_0_0).toLoadRect (h.unread v) = v :=
  (congrArg (fun u => View.ld u _) (h.read_unread v)).trans (View.ld_unit_lit _ v (by decide))

theorem rd_S512x1024 (M : Memref sig .tc .vmem S512x1024 .bf16) (h : M.IsWhole) (v : Vec Ideal S512x1024 .bf16) :
    View.readAt (Elt Ideal) M.view (Rect.unit ![0, 0] (no_index S512x1024.size) inb_S512x1024_S512x1024_0_0).toLoadRect (h.unread v) = v :=
  (congrArg (fun u => View.ld u _) (h.read_unread v)).trans (View.ld_unit_lit _ v (by decide))

theorem rd_S1x128 (M : Memref sig .tc .vmem S1x128 .f32) (h : M.IsWhole) (v : Vec Ideal S1x128 .f32) :
    View.readAt (Elt Ideal) M.view (Rect.unit ![0, 0] (no_index S1x128.size) inb_S1x128_S1x128_0_0).toLoadRect (h.unread v) = v :=
  (congrArg (fun u => View.ld u _) (h.read_unread v)).trans (View.ld_unit_lit _ v (by decide))

theorem rd_S512x128 (M : Memref sig .tc .vmem S512x128 .f32) (h : M.IsWhole) (v : Vec Ideal S512x128 .f32) :
    View.readAt (Elt Ideal) M.view (Rect.unit ![0, 0] (no_index S512x128.size) inb_S512x128_S512x128_0_0).toLoadRect (h.unread v) = v :=
  (congrArg (fun u => View.ld u _) (h.read_unread v)).trans (View.ld_unit_lit _ v (by decide))

theorem rd_S1x192 (M : Memref sig .tc .vmem S1x192 .f32) (h : M.IsWhole) (v : Vec Ideal S1x192 .f32) :
    View.readAt (Elt Ideal) M.view (Rect.unit (s := S1x192) ![0, 0] (no_index S1x128.size) inb_S1x192_S1x128_0_0).toLoadRect (h.unread v) = View.ld v (Rect.unit (s := S1x192) ![0, 0] S1x128.size inb_S1x192_S1x128_0_0) :=
  congrArg (fun u => View.ld u _) (h.read_unread v)

theorem pay15 (v : Vec Ideal S512x128 .f32) : k0_pay15 (F := Ideal) v = v := shapeCast_self _ _
theorem pay16 (v : Vec Ideal S512x128 .f32) : k0_pay16 (F := Ideal) v = v := shapeCast_self _ _

section
variable (A B C K V : FVec Ideal S512x1024 .f32) (e e' cs sn : FVec Ideal S512x128 .f32) (ss : FVec Ideal S512x1 .f32) (g g1 g2 : Vec Ideal S1x128 .f32)

/-! Each stored piece is the term of its head: `q…n` and `q…r` of the queries, `k…n` and `k…r` of the keys, `v…n` and `v…o` of the
    values, the first part and the last. -/

theorem q7r : k0_pay126 cs sn (k0_pay122 C) (k0_pay123 A B) (k0_pay125 A B) g1 g2 = QR (cut B 7) (cut C 7) (QF (cut A 7) (cut B 7)) cs sn g1 g2 := by
  simp only [← cut7 _ slices_S512x1024_o0_896_S512x128]
  rfl
theorem q7n : k0_pay124 A B g = QN (cut A 7) (QF (cut A 7) (cut B 7)) g := by
  simp only [← cut7 _ slices_S512x1024_o0_896_S512x128]
  rfl
theorem q6r : k0_pay112 cs sn (k0_pay106 B) (k0_pay107 C) (k0_pay108 A) (k0_pay109 B) g1 g2 = QR (cut B 6) (cut C 6) (QF (cut A 6) (cut B 6)) cs sn g1 g2 := by
  simp only [← cut6 _ slices_S512x1024_o0_768_S512x128]
  rfl
theorem q6n : k0_pay111 (k0_pay105 A) (k0_pay108 A) (k0_pay109 B) g = QN (cut A 6) (QF (cut A 6) (cut B 6)) g := by
  simp only [← cut6 _ slices_S512x1024_o0_768_S512x128]
  rfl
theorem q5r : k0_pay97 cs sn (k0_pay93 B) (k0_pay94 C) (k0_pay95 A B) g1 g2 = QR (cut B 5) (cut C 5) (QF (cut A 5) (cut B 5)) cs sn g1 g2 := by
  simp only [← cut5 _ slices_S512x1024_o0_640_S512x128]
  rfl
theorem q5n : k0_pay96 A B g = QN (cut A 5) (QF (cut A 5) (cut B 5)) g := by
  simp only [← cut5 _ slices_S512x1024_o0_640_S512x128]
  rfl
theorem q4r : k0_pay84 (k0_pay83 cs sn (k0_pay78 B) (k0_pay79 C) (k0_pay80 A) g1 g2) = QR (cut B 4) (cut C 4) (QF (cut A 4) (cut B 4)) cs sn g1 g2 := by
  simp only [← cut4 _ slices_S512x1024_o0_512_S512x128]
  rfl
theorem q4n : k0_pay82 (k0_pay77 A) (k0_pay78 B) (k0_pay80 A) g = QN (cut A 4) (QF (cut A 4) (cut B 4)) g := by
  simp only [← cut4 _ slices_S512x1024_o0_512_S512x128]
  rfl
theorem q3r : k0_pay69 cs sn (k0_pay64 B) (k0_pay65 C) (k0_pay66 A B) g1 g2 = QR (cut B 3) (cut C 3) (QF (cut A 3) (cut B 3)) cs sn g1 g2 := by
  simp only [← cut3 _ slices_S512x1024_o0_384_S512x128]
  rfl
theorem q3n : k0_pay68 (k0_pay67 A B g) = QN (cut A 3) (QF (cut A 3) (cut B 3)) g := by
  simp only [← cut3 _ slices_S512x1024_o0_384_S512x128]
  rfl
theorem q2r : k0_pay55 (k0_pay54 cs sn (k0_pay49 A) (k0_pay50 B) (k0_pay51 C) g1 g2) = QR (cut B 2) (cut C 2) (QF (cut A 2) (cut B 2)) cs sn g1 g2 := by
  simp only [← cut2 _ slices_S512x1024_o0_256_S512x128]
  rfl
theorem q2n : k0_pay53 (k0_pay49 A) (k0_pay50 B) g = QN (cut A 2) (QF (cut A 2) (cut B 2)) g := by
  simp only [← cut2 _ slices_S512x1024_o0_256_S512x128]
  rfl
theorem q1r : k0_pay40 cs sn (k0_pay35 B) (k0_pay36 C) (k0_pay37 A B) g1 g2 = QR (cut B 1) (cut C 1) (QF (cut A 1) (cut B 1)) cs sn g1 g2 := by
  simp only [← cut1 _ slices_S512x1024_o0_128_S512x128]
  rfl
theorem q1n : k0_pay39 (k0_pay38 A B g) = QN (cut A 1) (QF (cut A 1) (cut B 1)) g := by
  simp only [← cut1 _ slices_S512x1024_o0_128_S512x128]
  rfl
theorem q0r : k0_pay25 (k0_pay24 A B C cs sn g1 g2) = QR (cut B 0) (cut C 0) (QF (cut A 0) (cut B 0)) cs sn g1 g2 := by
  simp only [← cut0 _ slices_S512x1024_o0_0_S512x128]
  rfl
theorem q0n : k0_pay23 A B g = QN (cut A 0) (QF (cut A 0) (cut B 0)) g := by
  simp only [← cut0 _ slices_S512x1024_o0_0_S512x128]
  rfl
theorem k7r : k0_pay131 e' cs sn (k0_pay128 K ss) (k0_pay130 e K ss) g1 g2 = KR e e' (KF (cut K 7) ss) cs sn g1 g2 := by
  simp only [← cut7 _ slices_S512x1024_o0_896_S512x128]
  rfl
theorem k7n : k0_pay129 K ss g = KN (cut K 7) (KF (cut K 7) ss) g := by
  simp only [← cut7 _ slices_S512x1024_o0_896_S512x128]
  rfl
theorem k6r : k0_pay116 e e' K cs sn ss g1 g2 = KR e e' (KF (cut K 6) ss) cs sn g1 g2 := by
  simp only [← cut6 _ slices_S512x1024_o0_768_S512x128]
  rfl
theorem k6n : k0_pay115 K ss g = KN (cut K 6) (KF (cut K 6) ss) g := by
  simp only [← cut6 _ slices_S512x1024_o0_768_S512x128]
  rfl
theorem k5r : k0_pay102 e e' cs sn (k0_pay99 K ss) g1 g2 = KR e e' (KF (cut K 5) ss) cs sn g1 g2 := by
  simp only [← cut5 _ slices_S512x1024_o0_640_S512x128]
  rfl
theorem k5n : k0_pay101 (k0_pay100 K ss g) = KN (cut K 5) (KF (cut K 5) ss) g := by
  simp only [← cut5 _ slices_S512x1024_o0_640_S512x128]
  rfl
theorem k4r : k0_pay89 (k0_pay88 e e' K cs sn ss g1 g2) = KR e e' (KF (cut K 4) ss) cs sn g1 g2 := by
  simp only [← cut4 _ slices_S512x1024_o0_512_S512x128]
  rfl
theorem k4n : k0_pay87 K ss g = KN (cut K 4) (KF (cut K 4) ss) g := by
  simp only [← cut4 _ slices_S512x1024_o0_512_S512x128]
  rfl
theorem k3r : k0_pay74 e e' cs sn (k0_pay71 K ss) g1 g2 = KR e e' (KF (cut K 3) ss) cs sn g1 g2 := by
  simp only [← cut3 _ slices_S512x1024_o0_384_S512x128]
  rfl
theorem k3n : k0_pay73 (k0_pay72 K ss g) = KN (cut K 3) (KF (cut K 3) ss) g := by
  simp only [← cut3 _ slices_S512x1024_o0_384_S512x128]
  rfl
theorem k2r : k0_pay60 (k0_pay59 e e' K cs sn ss g1 g2) = KR e e' (KF (cut K 2) ss) cs sn g1 g2 := by
  simp only [← cut2 _ slices_S512x1024_o0_256_S512x128]
  rfl
theorem k2n : k0_pay58 K ss g = KN (cut K 2) (KF (cut K 2) ss) g := by
  simp only [← cut2 _ slices_S512x1024_o0_256_S512x128]
  rfl
theorem k1r : k0_pay46 e e' cs sn (k0_pay42 K ss) g1 g2 = KR e e' (KF (cut K 1) ss) cs sn g1 g2 := by
  simp only [← cut1 _ slices_S512x1024_o0_128_S512x128]
  rfl
theorem k1n : k0_pay45 (k0_pay43 K ss) (k0_pay44 g) = KN (cut K 1) (KF (cut K 1) ss) g := by
  simp only [← cut1 _ slices_S512x1024_o0_128_S512x128]
  rfl
theorem k0r : k0_pay31 (k0_pay29 e K cs ss g1) (k0_pay30 e' K sn ss g2) = KR e e' (KF (cut K 0) ss) cs sn g1 g2 := by
  simp only [← cut0 _ slices_S512x1024_o0_0_S512x128]
  rfl
theorem k0n : k0_pay28 K ss g = KN (cut K 0) (KF (cut K 0) ss) g := by
  simp only [← cut0 _ slices_S512x1024_o0_0_S512x128]
  rfl
theorem v7o : k0_pay1 (k0_pay17 (F := Ideal)) = k0_pay33 k0_pay17 := rfl
theorem v7n : k0_pay132 V = VN (cut V 7) := by
  simp only [← cut7 _ slices_S512x1024_o0_896_S512x128]
  rfl
theorem v6o : k0_pay119 (k0_pay17 (F := Ideal)) = k0_pay33 k0_pay17 := rfl
theorem v6n : k0_pay118 (k0_pay117 V) = VN (cut V 6) := by
  simp only [← cut6 _ slices_S512x1024_o0_768_S512x128]
  rfl
theorem v5o : k0_pay104 (k0_pay17 (F := Ideal)) = k0_pay33 k0_pay17 := rfl
theorem v5n : k0_pay103 V = VN (cut V 5) := by
  simp only [← cut5 _ slices_S512x1024_o0_640_S512x128]
  rfl
theorem v4o : k0_pay91 (k0_pay17 (F := Ideal)) = k0_pay33 k0_pay17 := rfl
theorem v4n : k0_pay90 V = VN (cut V 4) := by
  simp only [← cut4 _ slices_S512x1024_o0_512_S512x128]
  rfl
theorem v3o : k0_pay76 (k0_pay17 (F := Ideal)) = k0_pay33 k0_pay17 := rfl
theorem v3n : k0_pay75 V = VN (cut V 3) := by
  simp only [← cut3 _ slices_S512x1024_o0_384_S512x128]
  rfl
theorem v2o : k0_pay62 (k0_pay17 (F := Ideal)) = k0_pay33 k0_pay17 := rfl
theorem v2n : k0_pay61 V = VN (cut V 2) := by
  simp only [← cut2 _ slices_S512x1024_o0_256_S512x128]
  rfl
theorem v1o : k0_pay48 (k0_pay17 (F := Ideal)) = k0_pay33 k0_pay17 := rfl
theorem v1n : k0_pay47 V = VN (cut V 1) := by
  simp only [← cut1 _ slices_S512x1024_o0_128_S512x128]
  rfl
theorem v0o : k0_pay33 (k0_pay17 (F := Ideal)) = k0_pay33 k0_pay17 := rfl
theorem v0n : k0_pay32 V = VN (cut V 0) := by
  simp only [← cut0 _ slices_S512x1024_o0_0_S512x128]
  rfl
end

variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec Ideal S1x512x2048 .f32) (x1 : Vec Ideal S1x2048 .f32) (x2 : Vec Ideal S2048x1280 .bf16) (x3 : Vec Ideal S1x512 .f32)
  (x4 : Vec Ideal S1x512 .f32) (x5 : Vec Ideal S512x1024 .bf16) (x6 : Vec Ideal S512x1024 .bf16) (x7 : Vec Ideal S512x1024 .bf16)
  (x8 : Vec Ideal S512x1024 .bf16) (x9 : Vec Ideal S512x1024 .bf16) (x10 : Vec Ideal S1x192 .f32) (x11 : Vec Ideal S1x128 .f32)
  (x12 : Vec Ideal S1x128 .f32) (x13 : Vec Ideal S1x192 .f32) (x14 : Vec Ideal S1x128 .f32) (x15 : Vec Ideal S1x128 .f32)
  (x16 : Vec Ideal S512x128 .f32) (x17 : Vec Ideal S512x128 .f32)

theorem b5 : bodyRun.sl.r_5 (F := Ideal) c arg2 harg2 arg3 harg3 arg4 harg4 x0 x1 x2 = E x0 x1 x2 := by
  simp only [bodyRun.sl.r, bodyRun.sl.r_5, rd_S1x192, rd_S1x512x2048, rd_S1x2048, rd_S2048x1280, rd_S1x512, rd_S512x1024, rd_S1x128, rd_S512x128]
  rfl

theorem b6 : bodyRun.sl.r_6 (F := Ideal) c arg2 harg2 arg3 harg3 arg4 harg4 x0 x1 x2 = E' x0 x1 x2 := by
  simp only [bodyRun.sl.r, bodyRun.sl.r_6, rd_S1x192, rd_S1x512x2048, rd_S1x2048, rd_S2048x1280, rd_S1x512, rd_S512x1024, rd_S1x128, rd_S512x128]
  rfl

theorem b7 : bodyRun.sl.r_7 (F := Ideal) c arg2 harg2 arg3 harg3 arg4 harg4 arg5 harg5 arg7 harg7 x0 x1 x2 x3 x5 = PQ x0 x1 x2 x3 x5 := by
  simp only [bodyRun.sl.r_1, bodyRun.sl.r_7, rd_S1x192, rd_S1x512x2048, rd_S1x2048, rd_S2048x1280, rd_S1x512, rd_S512x1024, rd_S1x128, rd_S512x128]
  rfl

theorem b8 : bodyRun.sl.r_8 (F := Ideal) c arg2 harg2 arg3 harg3 arg4 harg4 arg5 harg5 arg8 harg8 x0 x1 x2 x3 x6 = PQ x0 x1 x2 x3 x6 := by
  simp only [bodyRun.sl.r_1, bodyRun.sl.r_8, rd_S1x192, rd_S1x512x2048, rd_S1x2048, rd_S2048x1280, rd_S1x512, rd_S512x1024, rd_S1x128, rd_S512x128]
  rfl

theorem b9 : bodyRun.sl.r_9 (F := Ideal) c arg2 harg2 arg3 harg3 arg4 harg4 arg5 harg5 arg9 harg9 x0 x1 x2 x3 x7 = PQ x0 x1 x2 x3 x7 := by
  simp only [bodyRun.sl.r_1, bodyRun.sl.r_9, rd_S1x192, rd_S1x512x2048, rd_S1x2048, rd_S2048x1280, rd_S1x512, rd_S512x1024, rd_S1x128, rd_S512x128]
  rfl

theorem b10 : bodyRun.sl.r_10 (F := Ideal) c arg2 harg2 arg3 harg3 arg4 harg4 arg6 harg6 arg10 harg10 x0 x1 x2 x4 x8 = PK x0 x1 x2 x4 x8 := by
  simp only [bodyRun.sl.r_2, bodyRun.sl.r_3, bodyRun.sl.r_4, bodyRun.sl.r_10, rd_S1x192, rd_S1x512x2048, rd_S1x2048, rd_S2048x1280, rd_S1x512, rd_S512x1024, rd_S1x128, rd_S512x128]
  rfl

theorem b11 : bodyRun.sl.r_11 (F := Ideal) c arg2 harg2 arg3 harg3 arg4 harg4 arg6 harg6 arg11 harg11 x0 x1 x2 x4 x9 = PK x0 x1 x2 x4 x9 := by
  simp only [bodyRun.sl.r_2, bodyRun.sl.r_3, bodyRun.sl.r_4, bodyRun.sl.r_11, rd_S1x192, rd_S1x512x2048, rd_S1x2048, rd_S2048x1280, rd_S1x512, rd_S512x1024, rd_S1x128, rd_S512x128]
  rfl

theorem b12 : bodyRun.sl.r_12 (F := Ideal) c arg18 harg18 x16 = x16 := by
  simp only [bodyRun.sl.r_12, rd_S1x192, rd_S1x512x2048, rd_S1x2048, rd_S2048x1280, rd_S1x512, rd_S512x1024, rd_S1x128, rd_S512x128, pay15]

theorem b13 : bodyRun.sl.r_13 (F := Ideal) c arg19 harg19 x17 = x17 := by
  simp only [bodyRun.sl.r_13, rd_S1x192, rd_S1x512x2048, rd_S1x2048, rd_S2048x1280, rd_S1x512, rd_S512x1024, rd_S1x128, rd_S512x128, pay16]

theorem b15 : bodyRun.sl.r_15 (F := Ideal) c arg2 harg2 arg3 harg3 arg4 harg4 x0 x1 x2 = SS x0 x1 x2 := by
  simp only [bodyRun.sl.r_14, bodyRun.sl.r, bodyRun.sl.r_15, rd_S1x192, rd_S1x512x2048, rd_S1x2048, rd_S2048x1280, rd_S1x512, rd_S512x1024, rd_S1x128, rd_S512x128]
  rfl

end Cert.Prep.Block
-- ==== Proof.PrepStoreQ.lean ====
/-
  The preparation of the queries, keys and values: the queries a block stores, head by head.
-/
module

public import proofs.«01_k».proof.Proof.PrepHeads

@[expose] public section

set_option maxRecDepth 16384

noncomputable section

namespace Cert.Prep.Block

open Cert.Kernel7Ideal Cert.Kernel7Ideal.Gen Cert.Kernel7Ideal.Prep Idealize.ShloMosaic Idealize.ShloMosaic.TcCoe
open scoped BigOperators
variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec Ideal S1x512x2048 .f32) (x1 : Vec Ideal S1x2048 .f32) (x2 : Vec Ideal S2048x1280 .bf16) (x3 : Vec Ideal S1x512 .f32)
  (x4 : Vec Ideal S1x512 .f32) (x5 : Vec Ideal S512x1024 .bf16) (x6 : Vec Ideal S512x1024 .bf16) (x7 : Vec Ideal S512x1024 .bf16)
  (x8 : Vec Ideal S512x1024 .bf16) (x9 : Vec Ideal S512x1024 .bf16) (x10 : Vec Ideal S1x192 .f32) (x11 : Vec Ideal S1x128 .f32)
  (x12 : Vec Ideal S1x128 .f32) (x13 : Vec Ideal S1x192 .f32) (x14 : Vec Ideal S1x128 .f32) (x15 : Vec Ideal S1x128 .f32)
  (x16 : Vec Ideal S512x128 .f32) (x17 : Vec Ideal S512x128 .f32)

set_option maxHeartbeats 1000000 in
/-- The queries of a block: the pieces stored are the eight heads' side by side. -/
theorem run18 (y : S1x8x512x192.Idx) : View.canon (Val := Elt Ideal) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1 y
    = join192 (fun h => QN (cut (PQ x0 x1 x2 x3 x5) h) (QF (cut (PQ x0 x1 x2 x3 x5) h) (cut (PQ x0 x1 x2 x3 x6) h)) (View.ld x10 (Rect.unit ![0, 0] S1x128.size inb_S1x192_S1x128_0_0)))
        (fun h => QR (cut (PQ x0 x1 x2 x3 x6) h) (cut (PQ x0 x1 x2 x3 x7) h) (QF (cut (PQ x0 x1 x2 x3 x5) h) (cut (PQ x0 x1 x2 x3 x6) h)) x16 x17 x11 x12) y := by
  unfold bodyRun
  canon_tiles x h using cover18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 y
  case piece0 =>
    refine Eq.trans ?_ (join192_hi _ _ y x 7 (by omega) (by omega) (by omega))
    simp only [rd_S1x192, rd_S1x512x2048, rd_S1x2048, rd_S2048x1280, rd_S1x512, rd_S512x1024, rd_S1x128, rd_S512x128, bodyRun.sl.r_54, bodyRun.sl.r_55, bodyRun.sl.r_56, b5, b6, b7, b8, b9, b10, b11, b12, b13, b15]
    exact congrFun (q7r _ _ _ _ _ _ _) x
  case piece1 =>
    refine Eq.trans ?_ (join192_lo _ _ y x 7 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (q7n _ _ _) x
  case piece2 =>
    refine Eq.trans ?_ (join192_hi _ _ y x 6 (by omega) (by omega) (by omega))
    simp only [rd_S1x192, rd_S1x512x2048, rd_S1x2048, rd_S2048x1280, rd_S1x512, rd_S512x1024, rd_S1x128, rd_S512x128, bodyRun.sl.r_49, bodyRun.sl.r_50, bodyRun.sl.r_51, bodyRun.sl.r_52, b5, b6, b7, b8, b9, b10, b11, b12, b13, b15]
    exact congrFun (q6r _ _ _ _ _ _ _) x
  case piece3 =>
    refine Eq.trans ?_ (join192_lo _ _ y x 6 (by omega) (by omega) (by omega))
    simp only [rd_S1x192, rd_S1x512x2048, rd_S1x2048, rd_S2048x1280, rd_S1x512, rd_S512x1024, rd_S1x128, rd_S512x128, bodyRun.sl.r_48, bodyRun.sl.r_51, bodyRun.sl.r_52, b5, b6, b7, b8, b9, b10, b11, b12, b13, b15]
    exact congrFun (q6n _ _ _) x
  case piece4 =>
    refine Eq.trans ?_ (join192_hi _ _ y x 5 (by omega) (by omega) (by omega))
    simp only [rd_S1x192, rd_S1x512x2048, rd_S1x2048, rd_S2048x1280, rd_S1x512, rd_S512x1024, rd_S1x128, rd_S512x128, bodyRun.sl.r_43, bodyRun.sl.r_44, bodyRun.sl.r_45, b5, b6, b7, b8, b9, b10, b11, b12, b13, b15]
    exact congrFun (q5r _ _ _ _ _ _ _) x
  case piece5 =>
    refine Eq.trans ?_ (join192_lo _ _ y x 5 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (q5n _ _ _) x
  case piece6 =>
    refine Eq.trans ?_ (join192_hi _ _ y x 4 (by omega) (by omega) (by omega))
    simp only [rd_S1x192, rd_S1x512x2048, rd_S1x2048, rd_S2048x1280, rd_S1x512, rd_S512x1024, rd_S1x128, rd_S512x128, bodyRun.sl.r_38, bodyRun.sl.r_39, bodyRun.sl.r_40, bodyRun.sl.r_41, b5, b6, b7, b8, b9, b10, b11, b12, b13, b15]
    exact congrFun (q4r _ _ _ _ _ _ _) x
  case piece7 =>
    refine Eq.trans ?_ (join192_lo _ _ y x 4 (by omega) (by omega) (by omega))
    simp only [rd_S1x192, rd_S1x512x2048, rd_S1x2048, rd_S2048x1280, rd_S1x512, rd_S512x1024, rd_S1x128, rd_S512x128, bodyRun.sl.r_37, bodyRun.sl.r_38, bodyRun.sl.r_40, b5, b6, b7, b8, b9, b10, b11, b12, b13, b15]
    exact congrFun (q4n _ _ _) x
  case piece8 =>
    refine Eq.trans ?_ (join192_hi _ _ y x 3 (by omega) (by omega) (by omega))
    simp only [rd_S1x192, rd_S1x512x2048, rd_S1x2048, rd_S2048x1280, rd_S1x512, rd_S512x1024, rd_S1x128, rd_S512x128, bodyRun.sl.r_31, bodyRun.sl.r_32, bodyRun.sl.r_33, b5, b6, b7, b8, b9, b10, b11, b12, b13, b15]
    exact congrFun (q3r _ _ _ _ _ _ _) x
  case piece9 =>
    refine Eq.trans ?_ (join192_lo _ _ y x 3 (by omega) (by omega) (by omega))
    simp only [rd_S1x192, rd_S1x512x2048, rd_S1x2048, rd_S2048x1280, rd_S1x512, rd_S512x1024, rd_S1x128, rd_S512x128, bodyRun.sl.r_34, b5, b6, b7, b8, b9, b10, b11, b12, b13, b15]
    exact congrFun (q3n _ _ _) x
  case piece10 =>
    refine Eq.trans ?_ (join192_hi _ _ y x 2 (by omega) (by omega) (by omega))
    simp only [rd_S1x192, rd_S1x512x2048, rd_S1x2048, rd_S2048x1280, rd_S1x512, rd_S512x1024, rd_S1x128, rd_S512x128, bodyRun.sl.r_26, bodyRun.sl.r_27, bodyRun.sl.r_28, bodyRun.sl.r_29, b5, b6, b7, b8, b9, b10, b11, b12, b13, b15]
    exact congrFun (q2r _ _ _ _ _ _ _) x
  case piece11 =>
    refine Eq.trans ?_ (join192_lo _ _ y x 2 (by omega) (by omega) (by omega))
    simp only [rd_S1x192, rd_S1x512x2048, rd_S1x2048, rd_S2048x1280, rd_S1x512, rd_S512x1024, rd_S1x128, rd_S512x128, bodyRun.sl.r_26, bodyRun.sl.r_27, b5, b6, b7, b8, b9, b10, b11, b12, b13, b15]
    exact congrFun (q2n _ _ _) x
  case piece12 =>
    refine Eq.trans ?_ (join192_hi _ _ y x 1 (by omega) (by omega) (by omega))
    simp only [rd_S1x192, rd_S1x512x2048, rd_S1x2048, rd_S2048x1280, rd_S1x512, rd_S512x1024, rd_S1x128, rd_S512x128, bodyRun.sl.r_19, bodyRun.sl.r_20, bodyRun.sl.r_21, b5, b6, b7, b8, b9, b10, b11, b12, b13, b15]
    exact congrFun (q1r _ _ _ _ _ _ _) x
  case piece13 =>
    refine Eq.trans ?_ (join192_lo _ _ y x 1 (by omega) (by omega) (by omega))
    simp only [rd_S1x192, rd_S1x512x2048, rd_S1x2048, rd_S2048x1280, rd_S1x512, rd_S512x1024, rd_S1x128, rd_S512x128, bodyRun.sl.r_22, b5, b6, b7, b8, b9, b10, b11, b12, b13, b15]
    exact congrFun (q1n _ _ _) x
  case piece14 =>
    refine Eq.trans ?_ (join192_hi _ _ y x 0 (by omega) (by omega) (by omega))
    simp only [rd_S1x192, rd_S1x512x2048, rd_S1x2048, rd_S2048x1280, rd_S1x512, rd_S512x1024, rd_S1x128, rd_S512x128, bodyRun.sl.r_16, b5, b6, b7, b8, b9, b10, b11, b12, b13, b15]
    exact congrFun (q0r _ _ _ _ _ _ _) x
  case piece15 =>
    refine Eq.trans ?_ (join192_lo _ _ y x 0 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (q0n _ _ _) x

end Cert.Prep.Block
-- ==== Proof.PrepStoreK.lean ====
/-
  The preparation of the queries, keys and values: the keys a block stores, head by head.
-/
module

public import proofs.«01_k».proof.Proof.PrepHeads

@[expose] public section

set_option maxRecDepth 16384

noncomputable section

namespace Cert.Prep.Block

open Cert.Kernel7Ideal Cert.Kernel7Ideal.Gen Cert.Kernel7Ideal.Prep Idealize.ShloMosaic Idealize.ShloMosaic.TcCoe
open scoped BigOperators
variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec Ideal S1x512x2048 .f32) (x1 : Vec Ideal S1x2048 .f32) (x2 : Vec Ideal S2048x1280 .bf16) (x3 : Vec Ideal S1x512 .f32)
  (x4 : Vec Ideal S1x512 .f32) (x5 : Vec Ideal S512x1024 .bf16) (x6 : Vec Ideal S512x1024 .bf16) (x7 : Vec Ideal S512x1024 .bf16)
  (x8 : Vec Ideal S512x1024 .bf16) (x9 : Vec Ideal S512x1024 .bf16) (x10 : Vec Ideal S1x192 .f32) (x11 : Vec Ideal S1x128 .f32)
  (x12 : Vec Ideal S1x128 .f32) (x13 : Vec Ideal S1x192 .f32) (x14 : Vec Ideal S1x128 .f32) (x15 : Vec Ideal S1x128 .f32)
  (x16 : Vec Ideal S512x128 .f32) (x17 : Vec Ideal S512x128 .f32)

set_option maxHeartbeats 1000000 in
/-- The keys of a block: the pieces stored are the eight heads' side by side. -/
theorem run19 (y : S1x8x512x192.Idx) : View.canon (Val := Elt Ideal) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.1 y
    = join192 (fun h => KN (cut (PK x0 x1 x2 x4 x8) h) (KF (cut (PK x0 x1 x2 x4 x8) h) (SS x0 x1 x2)) (View.ld x13 (Rect.unit ![0, 0] S1x128.size inb_S1x192_S1x128_0_0)))
        (fun h => KR (E x0 x1 x2) (E' x0 x1 x2) (KF (cut (PK x0 x1 x2 x4 x8) h) (SS x0 x1 x2)) x16 x17 x14 x15) y := by
  unfold bodyRun
  canon_tiles x h using cover19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 y
  case piece0 =>
    refine Eq.trans ?_ (join192_hi _ _ y x 7 (by omega) (by omega) (by omega))
    simp only [rd_S1x192, rd_S1x512x2048, rd_S1x2048, rd_S2048x1280, rd_S1x512, rd_S512x1024, rd_S1x128, rd_S512x128, bodyRun.sl.r_57, bodyRun.sl.r_58, b5, b6, b7, b8, b9, b10, b11, b12, b13, b15]
    exact congrFun (k7r _ _ _ _ _ _ _ _) x
  case piece1 =>
    refine Eq.trans ?_ (join192_lo _ _ y x 7 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (k7n _ _ _) x
  case piece2 =>
    refine Eq.trans ?_ (join192_hi _ _ y x 6 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (k6r _ _ _ _ _ _ _ _) x
  case piece3 =>
    refine Eq.trans ?_ (join192_lo _ _ y x 6 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (k6n _ _ _) x
  case piece4 =>
    refine Eq.trans ?_ (join192_hi _ _ y x 5 (by omega) (by omega) (by omega))
    simp only [rd_S1x192, rd_S1x512x2048, rd_S1x2048, rd_S2048x1280, rd_S1x512, rd_S512x1024, rd_S1x128, rd_S512x128, bodyRun.sl.r_46, b5, b6, b7, b8, b9, b10, b11, b12, b13, b15]
    exact congrFun (k5r _ _ _ _ _ _ _ _) x
  case piece5 =>
    refine Eq.trans ?_ (join192_lo _ _ y x 5 (by omega) (by omega) (by omega))
    simp only [rd_S1x192, rd_S1x512x2048, rd_S1x2048, rd_S2048x1280, rd_S1x512, rd_S512x1024, rd_S1x128, rd_S512x128, bodyRun.sl.r_47, b5, b6, b7, b8, b9, b10, b11, b12, b13, b15]
    exact congrFun (k5n _ _ _) x
  case piece6 =>
    refine Eq.trans ?_ (join192_hi _ _ y x 4 (by omega) (by omega) (by omega))
    simp only [rd_S1x192, rd_S1x512x2048, rd_S1x2048, rd_S2048x1280, rd_S1x512, rd_S512x1024, rd_S1x128, rd_S512x128, bodyRun.sl.r_42, b5, b6, b7, b8, b9, b10, b11, b12, b13, b15]
    exact congrFun (k4r _ _ _ _ _ _ _ _) x
  case piece7 =>
    refine Eq.trans ?_ (join192_lo _ _ y x 4 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (k4n _ _ _) x
  case piece8 =>
    refine Eq.trans ?_ (join192_hi _ _ y x 3 (by omega) (by omega) (by omega))
    simp only [rd_S1x192, rd_S1x512x2048, rd_S1x2048, rd_S2048x1280, rd_S1x512, rd_S512x1024, rd_S1x128, rd_S512x128, bodyRun.sl.r_35, b5, b6, b7, b8, b9, b10, b11, b12, b13, b15]
    exact congrFun (k3r _ _ _ _ _ _ _ _) x
  case piece9 =>
    refine Eq.trans ?_ (join192_lo _ _ y x 3 (by omega) (by omega) (by omega))
    simp only [rd_S1x192, rd_S1x512x2048, rd_S1x2048, rd_S2048x1280, rd_S1x512, rd_S512x1024, rd_S1x128, rd_S512x128, bodyRun.sl.r_36, b5, b6, b7, b8, b9, b10, b11, b12, b13, b15]
    exact congrFun (k3n _ _ _) x
  case piece10 =>
    refine Eq.trans ?_ (join192_hi _ _ y x 2 (by omega) (by omega) (by omega))
    simp only [rd_S1x192, rd_S1x512x2048, rd_S1x2048, rd_S2048x1280, rd_S1x512, rd_S512x1024, rd_S1x128, rd_S512x128, bodyRun.sl.r_30, b5, b6, b7, b8, b9, b10, b11, b12, b13, b15]
    exact congrFun (k2r _ _ _ _ _ _ _ _) x
  case piece11 =>
    refine Eq.trans ?_ (join192_lo _ _ y x 2 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (k2n _ _ _) x
  case piece12 =>
    refine Eq.trans ?_ (join192_hi _ _ y x 1 (by omega) (by omega) (by omega))
    simp only [rd_S1x192, rd_S1x512x2048, rd_S1x2048, rd_S2048x1280, rd_S1x512, rd_S512x1024, rd_S1x128, rd_S512x128, bodyRun.sl.r_23, b5, b6, b7, b8, b9, b10, b11, b12, b13, b15]
    exact congrFun (k1r _ _ _ _ _ _ _ _) x
  case piece13 =>
    refine Eq.trans ?_ (join192_lo _ _ y x 1 (by omega) (by omega) (by omega))
    simp only [rd_S1x192, rd_S1x512x2048, rd_S1x2048, rd_S2048x1280, rd_S1x512, rd_S512x1024, rd_S1x128, rd_S512x128, bodyRun.sl.r_24, bodyRun.sl.r_25, b5, b6, b7, b8, b9, b10, b11, b12, b13, b15]
    exact congrFun (k1n _ _ _) x
  case piece14 =>
    refine Eq.trans ?_ (join192_hi _ _ y x 0 (by omega) (by omega) (by omega))
    simp only [rd_S1x192, rd_S1x512x2048, rd_S1x2048, rd_S2048x1280, rd_S1x512, rd_S512x1024, rd_S1x128, rd_S512x128, bodyRun.sl.r_17, bodyRun.sl.r_18, b5, b6, b7, b8, b9, b10, b11, b12, b13, b15]
    exact congrFun (k0r _ _ _ _ _ _ _ _) x
  case piece15 =>
    refine Eq.trans ?_ (join192_lo _ _ y x 0 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (k0n _ _ _) x

end Cert.Prep.Block
-- ==== Proof.PrepStoreV.lean ====
/-
  The preparation of the queries, keys and values: the values a block stores, head by head.
-/
module

public import proofs.«01_k».proof.Proof.PrepHeads

@[expose] public section

set_option maxRecDepth 16384

noncomputable section

namespace Cert.Prep.Block

open Cert.Kernel7Ideal Cert.Kernel7Ideal.Gen Cert.Kernel7Ideal.Prep Idealize.ShloMosaic Idealize.ShloMosaic.TcCoe
open scoped BigOperators
variable (c : Dev nD) (i : grid0.Coords)
  (arg2 : Memref sig .tc .vmem S1x512x2048 .f32) (harg2 : arg2.IsWhole) (arg3 : Memref sig .tc .vmem S1x2048 .f32) (harg3 : arg3.IsWhole)
  (arg4 : Memref sig .tc .vmem S2048x1280 .bf16) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x1024 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S512x1024 .bf16) (harg11 : arg11.IsWhole)
  (arg12 : Memref sig .tc .vmem S1x192 .f32) (harg12 : arg12.IsWhole) (arg13 : Memref sig .tc .vmem S1x128 .f32) (harg13 : arg13.IsWhole)
  (arg14 : Memref sig .tc .vmem S1x128 .f32) (harg14 : arg14.IsWhole) (arg15 : Memref sig .tc .vmem S1x192 .f32) (harg15 : arg15.IsWhole)
  (arg16 : Memref sig .tc .vmem S1x128 .f32) (harg16 : arg16.IsWhole) (arg17 : Memref sig .tc .vmem S1x128 .f32) (harg17 : arg17.IsWhole)
  (arg18 : Memref sig .tc .vmem S512x128 .f32) (harg18 : arg18.IsWhole) (arg19 : Memref sig .tc .vmem S512x128 .f32) (harg19 : arg19.IsWhole)
  (arg20 : Memref sig .tc .vmem S1x8x512x192 .bf16) (harg20 : arg20.IsWhole) (arg21 : Memref sig .tc .vmem S1x8x512x192 .bf16) (harg21 : arg21.IsWhole)
  (arg22 : Memref sig .tc .vmem S1x8x512x256 .bf16) (harg22 : arg22.IsWhole)
  (x0 : Vec Ideal S1x512x2048 .f32) (x1 : Vec Ideal S1x2048 .f32) (x2 : Vec Ideal S2048x1280 .bf16) (x3 : Vec Ideal S1x512 .f32)
  (x4 : Vec Ideal S1x512 .f32) (x5 : Vec Ideal S512x1024 .bf16) (x6 : Vec Ideal S512x1024 .bf16) (x7 : Vec Ideal S512x1024 .bf16)
  (x8 : Vec Ideal S512x1024 .bf16) (x9 : Vec Ideal S512x1024 .bf16) (x10 : Vec Ideal S1x192 .f32) (x11 : Vec Ideal S1x128 .f32)
  (x12 : Vec Ideal S1x128 .f32) (x13 : Vec Ideal S1x192 .f32) (x14 : Vec Ideal S1x128 .f32) (x15 : Vec Ideal S1x128 .f32)
  (x16 : Vec Ideal S512x128 .f32) (x17 : Vec Ideal S512x128 .f32)

set_option maxHeartbeats 1000000 in
/-- The values of a block: the pieces stored are the eight heads' side by side. -/
theorem run20 (y : S1x8x512x256.Idx) : View.canon (Val := Elt Ideal) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).2.2.1 y
    = join256 (fun h => VN (cut (PK x0 x1 x2 x4 x9) h)) (fun _ => k0_pay33 k0_pay17) y := by
  unfold bodyRun
  canon_tiles x h using cover20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 y
  case piece0 =>
    refine Eq.trans ?_ (join256_hi _ _ y x 7 (by omega) (by omega) (by omega))
    exact congrFun (v7o) x
  case piece1 =>
    refine Eq.trans ?_ (join256_lo _ _ y x 7 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v7n _) x
  case piece2 =>
    refine Eq.trans ?_ (join256_hi _ _ y x 6 (by omega) (by omega) (by omega))
    exact congrFun (v6o) x
  case piece3 =>
    refine Eq.trans ?_ (join256_lo _ _ y x 6 (by omega) (by omega) (by omega))
    simp only [rd_S1x192, rd_S1x512x2048, rd_S1x2048, rd_S2048x1280, rd_S1x512, rd_S512x1024, rd_S1x128, rd_S512x128, bodyRun.sl.r_53, b5, b6, b7, b8, b9, b10, b11, b12, b13, b15]
    exact congrFun (v6n _) x
  case piece4 =>
    refine Eq.trans ?_ (join256_hi _ _ y x 5 (by omega) (by omega) (by omega))
    exact congrFun (v5o) x
  case piece5 =>
    refine Eq.trans ?_ (join256_lo _ _ y x 5 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v5n _) x
  case piece6 =>
    refine Eq.trans ?_ (join256_hi _ _ y x 4 (by omega) (by omega) (by omega))
    exact congrFun (v4o) x
  case piece7 =>
    refine Eq.trans ?_ (join256_lo _ _ y x 4 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v4n _) x
  case piece8 =>
    refine Eq.trans ?_ (join256_hi _ _ y x 3 (by omega) (by omega) (by omega))
    exact congrFun (v3o) x
  case piece9 =>
    refine Eq.trans ?_ (join256_lo _ _ y x 3 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v3n _) x
  case piece10 =>
    refine Eq.trans ?_ (join256_hi _ _ y x 2 (by omega) (by omega) (by omega))
    exact congrFun (v2o) x
  case piece11 =>
    refine Eq.trans ?_ (join256_lo _ _ y x 2 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v2n _) x
  case piece12 =>
    refine Eq.trans ?_ (join256_hi _ _ y x 1 (by omega) (by omega) (by omega))
    exact congrFun (v1o) x
  case piece13 =>
    refine Eq.trans ?_ (join256_lo _ _ y x 1 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v1n _) x
  case piece14 =>
    refine Eq.trans ?_ (join256_hi _ _ y x 0 (by omega) (by omega) (by omega))
    exact congrFun (v0o) x
  case piece15 =>
    refine Eq.trans ?_ (join256_lo _ _ y x 0 (by omega) (by omega) (by omega))
    simp only [rd_S1x192, rd_S1x512x2048, rd_S1x2048, rd_S2048x1280, rd_S1x512, rd_S512x1024, rd_S1x128, rd_S512x128, b5, b6, b7, b8, b9, b10, b11, b12, b13, b15]
    exact congrFun (v0n _) x

end Cert.Prep.Block
-- ==== Proof.PrepRef.lean ====
/-
  The reference that makes the queries, keys and values, entry by entry.
-/
module

public import proofs.«01_k».proof.Proof.Proj
public import proofs.«01_k».proof.Proof.Gen.Reference7Ideal.Run

@[expose] public section

set_option maxRecDepth 16384

noncomputable section

namespace Cert.Prep

open Idealize.ShloMosaic Idealize.ShloMosaic.TcCoe
open scoped BigOperators

/-- The float words' values: the lengths 512 and 192, and the factor log2(e)/sqrt(192) of the queries. -/
def len512 : EReal := Ideal.ofBits .f32 0x44000000#32
def len192 : EReal := Ideal.ofBits .f32 0x43400000#32
def scale : EReal := Ideal.ofBits .f32 0x3DD53B95#32

/-- The factor of a row or a head: one over the root of its mean square. -/
def fac {n : ℕ} (l : EReal) (x : Fin n → EReal) : EReal := Ideal.rsqrt (Ideal.div (∑ k, x k * x k) l + Layer.eps)

/-- One entry of a row divided by its root mean square and scaled. -/
def nrm {n : ℕ} (l : EReal) (x g : Fin n → EReal) (d : Fin n) : EReal := x d * fac l x * g d

/-- The last 64 of a head's 192 columns, turned by the angles whose cosines are `c` and sines `s`. -/
def rot (u : Fin 192 → EReal) (c s : Fin 32 → EReal) (d : Fin 64) : EReal :=
  if h : d.val < 32 then
    u ⟨128 + d.val, by omega⟩ * c ⟨d.val, h⟩ - u ⟨128 + (32 + d.val), by omega⟩ * s ⟨d.val, h⟩
  else
    u ⟨128 + (32 + (d.val - 32)), by omega⟩ * c ⟨d.val - 32, by omega⟩ + u ⟨128 + (d.val - 32), by omega⟩ * s ⟨d.val - 32, by omega⟩

/-- A head: the first 128 columns as they are, the last 64 turned. -/
def rope (u : Fin 192 → EReal) (c s : Fin 32 → EReal) (d : Fin 192) : EReal :=
  if h : d.val < 128 then u d else rot u c s ⟨d.val - 128, by omega⟩

end Cert.Prep

namespace Cert.Prep.Plain

open Cert.Reference7Ideal Cert.Reference7Ideal.Gen Idealize.ShloMosaic Idealize.ShloMosaic.TcCoe Cert.Layer
open scoped BigOperators

/-- The angles: position times the inverse frequency. -/
def ANG : FVec Ideal S16384x32 .f32 :=
  mulf (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

section
variable (x : FVec Ideal S16384x2048 .f32) (g : FVec Ideal S2048 .f32) (w : FVec Ideal S2048x8896 .f32)

/-- The part of the combined product that this call uses. -/
def Z : FVec Ideal S1x16384x1088 .f32 :=
  shapeCast S1x16384x1088 (extractStridedSlice S16384x1088 ![0, 3712] (Cert.Proj.Plain.H x g w) slices_S16384x8896_S16384x1088_0_3712) shapeCasts_S16384x1088_S1x16384x1088

theorem Z_at (R : Fin 16384) (j : Fin 1088) : Z x g w (ix3 0 R j)
    = ∑ k, rms (fun k => x (ix2 R k)) (fun k => g (ix1 k)) k * w (ix2 k ⟨3712 + j.val, by omega⟩) := by
  unfold Z
  pointwise
  simp only [Cert.Proj.Plain.H_at]
end

section
variable (t : FVec Ideal S1x16384x512 .f32) (g : FVec Ideal S512 .f32)

/-- A compressed row normed. -/
def CN : FVec Ideal S1x16384x512 .f32 :=
  mulf (mulf t (broadcastInDim S1x16384x512 ![0, 1, 2] bcast_S1x16384x1_S1x16384x512_0_1_2 (Host.rsqrt (addf (Host.divf (broadcastInDim S1x16384x1 ![0, 1] bcast_S1x16384_S1x16384x1_0_1 (Host.reduceAdd (mulf t t) (constant S_ .f32 0x00000000#32) reducesTo_S1x16384x512_S1x16384_d2 h_S_)) (broadcastInDim S1x16384x1 ![] bcast_S_S1x16384x1 (constant S_ .f32 0x44000000#32))) (broadcastInDim S1x16384x1 ![] bcast_S_S1x16384x1 (constant S_ .f32 0x358637BD#32)))))) (broadcastInDim S1x16384x512 ![0, 1, 2] bcast_S1x1x512_S1x16384x512_0_1_2 (broadcastInDim S1x1x512 ![2] bcast_S512_S1x1x512_2 g))

theorem CN_at (R : Fin 16384) (k : Fin 512) : CN t g (ix3 0 R k) = nrm len512 (fun k => t (ix3 0 R k)) (fun k => g (ix1 k)) k := by
  unfold CN
  pointwise
  rfl
end

section
variable (t : FVec Ideal S1x16384x1088 .f32) (g : FVec Ideal S512 .f32)

/-- The queries, split into heads. -/
def QH (w : FVec Ideal S512x1536 .f32) : FVec Ideal S1x16384x8x192 .f32 :=
  shapeCast S1x16384x8x192 (Host.dotGeneral dot_S1x16384x512_S512x1536_S1x16384x1536_2_0_01_1_n_n none (CN (extractStridedSlice S1x16384x512 ![0, 0, 0] t slices_S1x16384x1088_S1x16384x512_0_0_0) g) w) shapeCasts_S1x16384x1536_S1x16384x8x192

/-- The keys' first parts and the values, split into heads. -/
def KV (w : FVec Ideal S512x2048 .f32) : FVec Ideal S1x16384x8x256 .f32 :=
  shapeCast S1x16384x8x256 (Host.dotGeneral dot_S1x16384x512_S512x2048_S1x16384x2048_2_0_01_1_n_n none (CN (extractStridedSlice S1x16384x512 ![0, 0, 512] t slices_S1x16384x1088_S1x16384x512_0_0_512) g) w) shapeCasts_S1x16384x2048_S1x16384x8x256

theorem QH_at (w : FVec Ideal S512x1536 .f32) (R : Fin 16384) (h : Fin 8) (d : Fin 192) : QH t g w (ix4 0 R h d)
    = ∑ k, nrm len512 (fun k => t (ix3 0 R ⟨k.val, by omega⟩)) (fun k => g (ix1 k)) k * w (ix2 k ⟨h.val * 192 + d.val, by omega⟩) := by
  unfold QH
  pointwise
  simp only [CN_at]
  pointwise

theorem KV_at (w : FVec Ideal S512x2048 .f32) (R : Fin 16384) (h : Fin 8) (d : Fin 256) : KV t g w (ix4 0 R h d)
    = ∑ k, nrm len512 (fun k => t (ix3 0 R ⟨512 + k.val, by omega⟩)) (fun k => g (ix1 k)) k * w (ix2 k ⟨h.val * 256 + d.val, by omega⟩) := by
  unfold KV
  pointwise
  simp only [CN_at]
  pointwise

/-- The keys: the first parts, and the shared last part beside each. -/
def KK (kv : FVec Ideal S1x16384x8x256 .f32) : FVec Ideal S1x16384x8x192 .f32 :=
  concatenate S1x16384x8x192 3 [⟨S1x16384x8x128, extractStridedSlice S1x16384x8x128 ![0, 0, 0, 0] kv slices_S1x16384x8x256_S1x16384x8x128_0_0_0_0⟩, ⟨S1x16384x8x64, broadcastInDim S1x16384x8x64 ![0, 1, 2, 3] bcast_S1x16384x1x64_S1x16384x8x64_0_1_2_3 (broadcastInDim S1x16384x1x64 ![0, 1, 3] bcast_S1x16384x64_S1x16384x1x64_0_1_3 (extractStridedSlice S1x16384x64 ![0, 0, 1024] t slices_S1x16384x1088_S1x16384x64_0_0_1024))⟩] concatenates_S1x16384x8x128_S1x16384x8x64_S1x16384x8x192_d3

theorem KK_at (kv : FVec Ideal S1x16384x8x256 .f32) (R : Fin 16384) (h : Fin 8) (d : Fin 192) : KK t kv (ix4 0 R h d)
    = if hd : d.val < 128 then kv (ix4 0 R h ⟨d.val, by omega⟩) else t (ix3 0 R ⟨1024 + (d.val - 128), by omega⟩) := by
  unfold KK
  pointwise
  done
end

section
variable (u : FVec Ideal S1x16384x8x192 .f32)

/-- The heads normed. -/
def HN (g : FVec Ideal S192 .f32) : FVec Ideal S1x16384x8x192 .f32 :=
  mulf (mulf u (broadcastInDim S1x16384x8x192 ![0, 1, 2, 3] bcast_S1x16384x8x1_S1x16384x8x192_0_1_2_3 (Host.rsqrt (addf (Host.divf (broadcastInDim S1x16384x8x1 ![0, 1, 2] bcast_S1x16384x8_S1x16384x8x1_0_1_2 (Host.reduceAdd (mulf u u) (constant S_ .f32 0x00000000#32) reducesTo_S1x16384x8x192_S1x16384x8_d3 h_S_)) (broadcastInDim S1x16384x8x1 ![] bcast_S_S1x16384x8x1 (constant S_ .f32 0x43400000#32))) (broadcastInDim S1x16384x8x1 ![] bcast_S_S1x16384x8x1 (constant S_ .f32 0x358637BD#32)))))) (broadcastInDim S1x16384x8x192 ![0, 1, 2, 3] bcast_S1x1x1x192_S1x16384x8x192_0_1_2_3 (broadcastInDim S1x1x1x192 ![3] bcast_S192_S1x1x1x192_3 g))

theorem HN_at (g : FVec Ideal S192 .f32) (R : Fin 16384) (h : Fin 8) (d : Fin 192) : HN u g (ix4 0 R h d) = nrm len192 (fun k => u (ix4 0 R h k)) (fun k => g (ix1 k)) d := by
  unfold HN
  pointwise
  rfl

/-- The cosines or the sines beside each head. -/
def TAB (a : FVec Ideal S16384x32 .f32) : FVec Ideal S1x16384x8x32 .f32 :=
  broadcastInDim S1x16384x8x32 ![0, 1, 2, 3] bcast_S1x16384x1x32_S1x16384x8x32_0_1_2_3 (broadcastInDim S1x16384x1x32 ![1, 3] bcast_S16384x32_S1x16384x1x32_1_3 a)

/-- The last 64 columns of the heads, and their halves. -/
def TL : FVec Ideal S1x16384x8x64 .f32 := extractStridedSlice S1x16384x8x64 ![0, 0, 0, 128] u slices_S1x16384x8x192_S1x16384x8x64_0_0_0_128
def TLA : FVec Ideal S1x16384x8x32 .f32 := extractStridedSlice S1x16384x8x32 ![0, 0, 0, 0] (TL u) slices_S1x16384x8x64_S1x16384x8x32_0_0_0_0
def TLB : FVec Ideal S1x16384x8x32 .f32 := extractStridedSlice S1x16384x8x32 ![0, 0, 0, 32] (TL u) slices_S1x16384x8x64_S1x16384x8x32_0_0_0_32

/-- The last 64 columns turned. -/
def RT (c s : FVec Ideal S16384x32 .f32) : FVec Ideal S1x16384x8x64 .f32 :=
  concatenate S1x16384x8x64 3 [⟨S1x16384x8x32, subf (mulf (TLA u) (TAB c)) (mulf (TLB u) (TAB s))⟩, ⟨S1x16384x8x32, addf (mulf (TLB u) (TAB c)) (mulf (TLA u) (TAB s))⟩] concatenates_S1x16384x8x32_S1x16384x8x32_S1x16384x8x64_d3

/-- The heads with their last 64 columns turned. -/
def RP (c s : FVec Ideal S16384x32 .f32) : FVec Ideal S1x16384x8x192 .f32 :=
  concatenate S1x16384x8x192 3 [⟨S1x16384x8x128, extractStridedSlice S1x16384x8x128 ![0, 0, 0, 0] u slices_S1x16384x8x192_S1x16384x8x128_0_0_0_0⟩, ⟨S1x16384x8x64, RT u c s⟩] concatenates_S1x16384x8x128_S1x16384x8x64_S1x16384x8x192_d3

theorem TAB_at (a : FVec Ideal S16384x32 .f32) (R : Fin 16384) (h : Fin 8) (d : Fin 32) : TAB a (ix4 0 R h d) = a (ix2 R d) := by
  unfold TAB
  pointwise
  done

theorem TLA_at (R : Fin 16384) (h : Fin 8) (d : Fin 32) : TLA u (ix4 0 R h d) = u (ix4 0 R h ⟨128 + d.val, by omega⟩) := by
  unfold TLA TL
  pointwise
  done

theorem TLB_at (R : Fin 16384) (h : Fin 8) (d : Fin 32) : TLB u (ix4 0 R h d) = u (ix4 0 R h ⟨128 + (32 + d.val), by omega⟩) := by
  unfold TLB TL
  pointwise
  done

theorem RT_at (c s : FVec Ideal S16384x32 .f32) (R : Fin 16384) (h : Fin 8) (d : Fin 64) : RT u c s (ix4 0 R h d)
    = rot (fun k => u (ix4 0 R h k)) (fun k => c (ix2 R k)) (fun k => s (ix2 R k)) d := by
  unfold RT rot
  pointwise
  simp only [TLA_at, TLB_at, TAB_at]
  done

theorem RP_at (c s : FVec Ideal S16384x32 .f32) (R : Fin 16384) (h : Fin 8) (d : Fin 192) : RP u c s (ix4 0 R h d)
    = rope (fun k => u (ix4 0 R h k)) (fun k => c (ix2 R k)) (fun k => s (ix2 R k)) d := by
  unfold RP rope
  pointwise
  simp only [RT_at]
  done

/-- The queries as the call returns them: scaled, the heads first. -/
def QO : FVec Ideal S1x8x16384x192 .bf16 :=
  truncf .bf16 (transpose S1x8x16384x192 [0, 2, 1, 3] (mulf u (broadcastInDim S1x16384x8x192 ![] bcast_S_S1x16384x8x192 (constant S_ .f32 0x3DD53B95#32))) transposes_S1x16384x8x192_S1x8x16384x192_0_2_1_3) bitsLt_bf16_f32

/-- The keys as the call returns them: the heads first. -/
def KO : FVec Ideal S1x8x16384x192 .bf16 :=
  truncf .bf16 (transpose S1x8x16384x192 [0, 2, 1, 3] u transposes_S1x16384x8x192_S1x8x16384x192_0_2_1_3) bitsLt_bf16_f32

/-- The values as the call returns them: a column of ones for each, the heads first. -/
def VO (kv : FVec Ideal S1x16384x8x256 .f32) : FVec Ideal S1x8x16384x256 .bf16 :=
  truncf .bf16 (transpose S1x8x16384x256 [0, 2, 1, 3] (concatenate S1x16384x8x256 3 [⟨S1x16384x8x128, extractStridedSlice S1x16384x8x128 ![0, 0, 0, 128] kv slices_S1x16384x8x256_S1x16384x8x128_0_0_0_128⟩, ⟨S1x16384x8x128, broadcastInDim S1x16384x8x128 ![] bcast_S_S1x16384x8x128 (constant S_ .f32 0x3F800000#32)⟩] concatenates_S1x16384x8x128_S1x16384x8x128_S1x16384x8x256_d3) transposes_S1x16384x8x256_S1x8x16384x256_0_2_1_3) bitsLt_bf16_f32

theorem QO_at (R : Fin 16384) (h : Fin 8) (d : Fin 192) : QO u (ix4 0 h R d) = u (ix4 0 R h d) * scale := by
  unfold QO
  pointwise
  rfl

theorem KO_at (R : Fin 16384) (h : Fin 8) (d : Fin 192) : KO u (ix4 0 h R d) = u (ix4 0 R h d) := by
  unfold KO
  pointwise

theorem VO_at (kv : FVec Ideal S1x16384x8x256 .f32) (R : Fin 16384) (h : Fin 8) (d : Fin 256) : VO kv (ix4 0 h R d)
    = if hd : d.val < 128 then kv (ix4 0 R h ⟨128 + d.val, by omega⟩) else Ideal.ofBits .f32 0x3F800000#32 := by
  unfold VO
  pointwise
  done
end

section
variable (x : FVec Ideal S16384x2048 .f32) (g : FVec Ideal S2048 .f32) (w : FVec Ideal S2048x8896 .f32)
variable (qn : FVec Ideal S512 .f32) (wq : FVec Ideal S512x1536 .f32) (kn : FVec Ideal S512 .f32) (wkv : FVec Ideal S512x2048 .f32) (qg kg : FVec Ideal S192 .f32)

/-- The three results. -/
def RQ : FVec Ideal S1x8x16384x192 .bf16 := QO (RP (HN (QH (Z x g w) qn wq) qg) (Host.cos ANG) (Host.sin ANG))
def RK : FVec Ideal S1x8x16384x192 .bf16 := KO (RP (HN (KK (Z x g w) (KV (Z x g w) kn wkv)) kg) (Host.cos ANG) (Host.sin ANG))
def RV : FVec Ideal S1x8x16384x256 .bf16 := VO (KV (Z x g w) kn wkv)
end

variable (m : (ℓ : Loc nD τ sig) → Buf (Elt Ideal) ℓ) (c : Dev nD)

/-- The queries' result is `RQ` of the arguments. -/
theorem res_q : Cert.Reference7Ideal.Value.res_main_v141 (F := Ideal) m c
    = RQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := rfl

/-- The keys' result is `RK` of the arguments. -/
theorem res_k : Cert.Reference7Ideal.Value.res_main_v143 (F := Ideal) m c
    = RK (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) := rfl

/-- The values' result is `RV` of the arguments. -/
theorem res_v : Cert.Reference7Ideal.Value.res_main_v145 (F := Ideal) m c
    = RV (m ((c : Thread nD τ).loc main_arg0)) (m ((c : Thread nD τ).loc main_arg1)) (m ((c : Thread nD τ).loc main_arg2)) (m ((c : Thread nD τ).loc main_arg5)) (m ((c : Thread nD τ).loc main_arg6)) := rfl

end Cert.Prep.Plain
-- ==== Proof.PrepEntry.lean ====
/-
  The preparation of the queries, keys and values: the products of one block, entry by entry.
-/
module

public import proofs.«01_k».proof.Proof.PrepBlock
public import proofs.«01_k».proof.Proof.PrepRef

@[expose] public section

set_option maxRecDepth 16384

noncomputable section

namespace Cert.Prep.Block

open Cert.Kernel7Ideal Cert.Kernel7Ideal.Gen Idealize.ShloMosaic Idealize.ShloMosaic.TcCoe
open scoped BigOperators

variable (x0 : Vec Ideal S1x512x2048 .f32) (x1 : Vec Ideal S1x2048 .f32) (x2 : Vec Ideal S2048x1280 .bf16) (x3 x4 : Vec Ideal S1x512 .f32) (w : Vec Ideal S512x1024 .bf16)

theorem Z_at (r : Fin 512) (j : Fin 1280) : Z x0 x1 x2 (ix2 r j)
    = ∑ k, Layer.rms (fun k => x0 (ix3 0 r k)) (fun k => x1 (ix2 0 k)) k * x2 (ix2 k j) := by
  unfold Z
  pointwise [k0_pay2]
  rfl

theorem PQ_at (r : Fin 512) (f : Fin 1024) : PQ x0 x1 x2 x3 w (ix2 r f)
    = ∑ k, nrm len512 (fun k => Z x0 x1 x2 (ix2 r ⟨k.val, by omega⟩)) (fun k => x3 (ix2 0 k)) k * w (ix2 k f) := by
  unfold PQ
  pointwise [k0_pay10, k0_pay3]
  rfl

theorem PK_at (r : Fin 512) (f : Fin 1024) : PK x0 x1 x2 x4 w (ix2 r f)
    = ∑ k, nrm len512 (fun k => Z x0 x1 x2 (ix2 r ⟨512 + k.val, by omega⟩)) (fun k => x4 (ix2 0 k)) k * w (ix2 k f) := by
  unfold PK
  pointwise [k0_pay13, k0_pay7, k0_pay4, k0_pay5, k0_pay6]
  rfl

theorem E_at (r : Fin 512) (d : Fin 128) : E x0 x1 x2 (ix2 r d) = Z x0 x1 x2 (ix2 r ⟨1024 + d.val, by omega⟩) := by
  unfold E
  pointwise [k0_pay8]
  done

theorem E'_at (r : Fin 512) (d : Fin 128) : E' x0 x1 x2 (ix2 r d) = Z x0 x1 x2 (ix2 r ⟨1152 + d.val, by omega⟩) := by
  unfold E'
  pointwise [k0_pay9]
  done

theorem SS_at (r : Fin 512) : SS x0 x1 x2 (ix2 r 0) = ∑ d, E x0 x1 x2 (ix2 r d) * E x0 x1 x2 (ix2 r d) := by
  unfold SS
  pointwise [k0_pay19, k0_pay18]
  rfl

theorem ones_at (r : Fin 512) (d : Fin 128) : k0_pay33 (F := Ideal) k0_pay17 (ix4 0 0 r d) = Ideal.ofBits .bf16 0x3F80#16 := by
  pointwise [k0_pay33, k0_pay17]
  done

end Cert.Prep.Block

end
-- ==== Proof.PrepMath.lean ====
/-
  The preparation of the queries, keys and values: the mathematics of one head.  A head's last 64 columns stand in 128, the others
  of which hold zeros; its halves are swapped in a second copy; and one half of the sines has its sign changed.
-/
module

public import proofs.«01_k».proof.Proof.PrepRef

@[expose] public section

set_option maxRecDepth 16384

noncomputable section

namespace Cert.Prep

open Idealize.ShloMosaic
open scoped BigOperators

/-- The column that the swap of the two halves puts at column `d`. -/
def sw (d : Fin 64) : Fin 64 := if h : d.val < 32 then ⟨32 + d.val, by omega⟩ else ⟨d.val - 32, by omega⟩

/-- The angle of column `d`. -/
def an (d : Fin 64) : Fin 32 := if h : d.val < 32 then ⟨d.val, h⟩ else ⟨d.val - 32, by omega⟩

/-- Columns 128 and on of a head. -/
def last (u : Fin 192 → EReal) (d : Fin 64) : EReal := u ⟨128 + d.val, by omega⟩

/-- 128 columns of which the first 64 are `u`, the others zero. -/
def padded (u : Fin 64 → EReal) (d : Fin 128) : EReal := if h : d.val < 64 then u ⟨d.val, h⟩ else 0

/-- A sum over the padded columns is the sum over the 64. -/
theorem sum_pad (u : Fin 64 → EReal) : ∑ d, padded u d * padded u d = ∑ d, u d * u d := by
  have h := Fin.sum_univ_add (M := EReal) (a := 64) (b := 64) (fun d => padded u d * padded u d)
  rw [show (∑ d : Fin 128, padded u d * padded u d) = ∑ d : Fin (64 + 64), padded u d * padded u d from rfl, h]
  have h1 : ∀ d : Fin 64, padded u (Fin.castAdd 64 d) = u d := fun d => by
    unfold padded
    rw [dif_pos (by simp)]
    rfl
  have h2 : ∀ d : Fin 64, padded u (Fin.natAdd 64 d) = 0 := fun d => by
    unfold padded
    rw [dif_neg (by simp)]
  simp only [h1, h2, mul_zero, Finset.sum_const_zero, add_zero]

/-- The sum of squares of a head is its two parts' together. -/
theorem sum_head (u : Fin 192 → EReal) : ∑ d, u d * u d = (∑ d : Fin 128, u ⟨d.val, by omega⟩ * u ⟨d.val, by omega⟩) + ∑ d, last u d * last u d :=
  Fin.sum_univ_add (M := EReal) (a := 128) (b := 64) (fun d => u d * u d)

/-- The factor of a head from its first part and its padded last part. -/
theorem fac_head (u : Fin 192 → EReal) (a b : Fin 128 → EReal) (ha : ∀ d, a d = u ⟨d.val, by omega⟩) (hb : ∀ d, b d = padded (last u) d) :
    Ideal.rsqrt (Ideal.div (∑ k, a k * a k + ∑ k, b k * b k) len192 + Layer.eps) = fac len192 u := by
  simp only [ha, hb, sum_pad, fac, sum_head]

/-- The turn of a normed head's last part, from the part, its swapped copy and the signed sines. -/
theorem rot_head (u g : Fin 192 → EReal) (C S : Fin 32 → EReal) (f : EReal) (d : Fin 64) (b c g1 g2 cs sn : EReal)
    (hb : b = last u d) (hc : c = last u (sw d)) (h1 : g1 = last g d) (h2 : g2 = last g (sw d))
    (hcs : cs = C (an d)) (hsn : sn = if d.val < 32 then -S (an d) else S (an d)) :
    b * f * g1 * cs + c * f * g2 * sn = rot (fun k => u k * f * g k) C S d := by
  subst hb hc h1 h2 hcs hsn
  unfold rot last sw an
  by_cases h : d.val < 32
  · simp only [h, dif_pos, if_true, mul_neg, sub_eq_add_neg]
  · have e : (⟨128 + (32 + (d.val - 32)), by omega⟩ : Fin 192) = ⟨128 + d.val, by omega⟩ := Fin.ext (by simp only; omega)
    simp only [h, dif_neg, if_false, not_false_eq_true, e]

/-- The two words that hold a one. -/
theorem one_words : Ideal.ofBits .bf16 0x3F80#16 = Ideal.ofBits .f32 0x3F800000#32 := by
  simp [Ideal.ofBits, Ideal.ieee, -EReal.coe_mul]
  norm_num

end Cert.Prep

end
-- ==== Proof.PrepTerm.lean ====
/-
  The preparation of the queries, keys and values: the arrays that are made of the arguments before the call.
-/
module

public import proofs.«01_k».proof.Proof.PrepMath
public import proofs.«01_k».proof.Proof.Gen.Kernel7Ideal.Launch
public import Idealize.ShloMosaic.Lib.Pipeline.ValueKit
public import Idealize.ShloMosaic.Lib.Pipeline.ReadBack

@[expose] public section

set_option maxRecDepth 16384

noncomputable section

namespace Cert.Prep.Win

open Cert.Kernel7Ideal Cert.Kernel7Ideal.Gen Idealize.ShloMosaic Idealize.ShloMosaic.TcCoe
open scoped BigOperators

/-- The zero that fills the columns added. -/
def ZERO : FVec Ideal S_ .f32 := sitofp .f32 (constantI S_ 32 0#32)

theorem ZERO_at (i : S_.Idx) : ZERO i = (0 : EReal) := by
  unfold ZERO
  pointwise
  change (((0#32 : BitVec 32).toInt : ℝ) : EReal) = 0
  norm_num

section
variable (x : FVec Ideal S2048x64 .f32) (w : FVec Ideal S2048x8896 .f32)

/-- The columns that this call uses, the last 64 of them, halves swapped, and columns of zeros added. -/
def MLA : FVec Ideal S2048x1088 .f32 := extractStridedSlice S2048x1088 ![0, 3712] w slices_S2048x8896_S2048x1088_0_3712
def TAIL : FVec Ideal S2048x64 .f32 := extractStridedSlice S2048x64 ![0, 1024] (MLA w) slices_S2048x1088_S2048x64_0_1024
def SW2 : FVec Ideal S2048x64 .f32 := concatenate S2048x64 1 [⟨S2048x32, extractStridedSlice S2048x32 ![0, 32] x slices_S2048x64_S2048x32_0_32⟩, ⟨S2048x32, extractStridedSlice S2048x32 ![0, 0] x slices_S2048x64_S2048x32_0_0⟩] concatenates_S2048x32_S2048x32_S2048x64_d1
def PAD2 : FVec Ideal S2048x128 .f32 := pad S2048x128 ![0, 0] ![0, 64] ![0, 0] x ZERO pads_S2048x64_S2048x128_000_0640 h_S_

/-- The combined matrix. -/
def WMLA : FVec Ideal S2048x1280 .bf16 :=
  truncf .bf16 (concatenate S2048x1280 1 [⟨S2048x1024, extractStridedSlice S2048x1024 ![0, 0] (MLA w) slices_S2048x1088_S2048x1024_0_0⟩, ⟨S2048x128, PAD2 (TAIL w)⟩, ⟨S2048x128, PAD2 (SW2 (TAIL w))⟩] concatenates_S2048x1024_S2048x128_S2048x128_S2048x1280_d1) bitsLt_bf16_f32

theorem TAIL_at (k : Fin 2048) (d : Fin 64) : TAIL w (ix2 k d) = w (ix2 k ⟨3712 + (1024 + d.val), by omega⟩) := by
  unfold TAIL MLA
  pointwise
  done

theorem SW2_at (k : Fin 2048) (d : Fin 64) : SW2 x (ix2 k d) = x (ix2 k (sw d)) := by
  unfold SW2 sw
  pointwise
  by_cases hd : d.val < 32
  · simp only [dif_pos hd]
  · simp only [dif_neg hd]

theorem PAD2_at (k : Fin 2048) (d : Fin 128) : PAD2 x (ix2 k d) = padded (fun e => x (ix2 k e)) d := by
  unfold PAD2 padded
  pointwise
  rw [ZERO_at]

theorem WMLA_lo (k : Fin 2048) (j : Fin 1024) : WMLA w (ix2 k ⟨j.val, by omega⟩) = w (ix2 k ⟨3712 + j.val, by omega⟩) := by
  unfold WMLA MLA
  pointwise

theorem WMLA_e (k : Fin 2048) (d : Fin 128) : WMLA w (ix2 k ⟨1024 + d.val, by omega⟩) = padded (fun e => w (ix2 k ⟨3712 + (1024 + e.val), by omega⟩)) d := by
  have h := PAD2_at (TAIL w) k d
  simp only [TAIL_at] at h
  rw [← h]
  unfold WMLA
  pointwise

theorem WMLA_s (k : Fin 2048) (d : Fin 128) : WMLA w (ix2 k ⟨1152 + d.val, by omega⟩) = padded (fun e => w (ix2 k ⟨3712 + (1024 + (sw e).val), by omega⟩)) d := by
  have h := PAD2_at (SW2 (TAIL w)) k d
  simp only [SW2_at, TAIL_at] at h
  rw [← h]
  unfold WMLA
  pointwise
  have e : (⟨1152 + d.val - 1024 - 128, by omega⟩ : Fin 128) = d := Fin.ext (by simp only; omega)
  rw [dif_neg (by omega), dif_neg (by omega), e]
end

section
variable (x : FVec Ideal S512x8x64 .f32) (q : FVec Ideal S512x1536 .f32) (v : FVec Ideal S512x2048 .f32)

/-- A head's last 64 columns, halves swapped, and columns of zeros added. -/
def HEADS : FVec Ideal S512x8x192 .f32 := shapeCast S512x8x192 q shapeCasts_S512x1536_S512x8x192
def HTAIL : FVec Ideal S512x8x64 .f32 := extractStridedSlice S512x8x64 ![0, 0, 128] (HEADS q) slices_S512x8x192_S512x8x64_0_0_128
def SW3 : FVec Ideal S512x8x64 .f32 := concatenate S512x8x64 2 [⟨S512x8x32, extractStridedSlice S512x8x32 ![0, 0, 32] x slices_S512x8x64_S512x8x32_0_0_32⟩, ⟨S512x8x32, extractStridedSlice S512x8x32 ![0, 0, 0] x slices_S512x8x64_S512x8x32_0_0_0⟩] concatenates_S512x8x32_S512x8x32_S512x8x64_d2
def PAD3 : FVec Ideal S512x8x128 .f32 := pad S512x8x128 ![0, 0, 0] ![0, 0, 64] ![0, 0, 0] x ZERO pads_S512x8x64_S512x8x128_000_000_0640 h_S_

/-- Eight heads side by side. -/
def SIDE (y : FVec Ideal S512x8x128 .f32) : FVec Ideal S512x1024 .bf16 := truncf .bf16 (shapeCast S512x1024 y shapeCasts_S512x8x128_S512x1024) bitsLt_bf16_f32

/-- The matrices: of the queries, the first parts, the last parts, these swapped; of the keys and of the values. -/
def WQN : FVec Ideal S512x1024 .bf16 := SIDE (extractStridedSlice S512x8x128 ![0, 0, 0] (HEADS q) slices_S512x8x192_S512x8x128_0_0_0)
def WQR : FVec Ideal S512x1024 .bf16 := SIDE (PAD3 (HTAIL q))
def WQS : FVec Ideal S512x1024 .bf16 := SIDE (PAD3 (SW3 (HTAIL q)))
def WKN : FVec Ideal S512x1024 .bf16 := SIDE (extractStridedSlice S512x8x128 ![0, 0, 0] (shapeCast S512x8x256 v shapeCasts_S512x2048_S512x8x256) slices_S512x8x256_S512x8x128_0_0_0)
def WV : FVec Ideal S512x1024 .bf16 := SIDE (extractStridedSlice S512x8x128 ![0, 0, 128] (shapeCast S512x8x256 v shapeCasts_S512x2048_S512x8x256) slices_S512x8x256_S512x8x128_0_0_128)

theorem HTAIL_at (k : Fin 512) (h : Fin 8) (d : Fin 64) : HTAIL q (ix3 k h d) = q (ix2 k ⟨h.val * 192 + (128 + d.val), by omega⟩) := by
  unfold HTAIL HEADS
  pointwise
  done

theorem SW3_at (k : Fin 512) (h : Fin 8) (d : Fin 64) : SW3 x (ix3 k h d) = x (ix3 k h (sw d)) := by
  unfold SW3 sw
  pointwise
  by_cases hd : d.val < 32
  · simp only [dif_pos hd]
  · simp only [dif_neg hd]

theorem PAD3_at (k : Fin 512) (h : Fin 8) (d : Fin 128) : PAD3 x (ix3 k h d) = padded (fun e => x (ix3 k h e)) d := by
  unfold PAD3 padded
  pointwise
  rw [ZERO_at]

theorem SIDE_at (y : FVec Ideal S512x8x128 .f32) (k : Fin 512) (h : Fin 8) (d : Fin 128) : SIDE y (ix2 k ⟨128 * h.val + d.val, by omega⟩) = y (ix3 k h d) := by
  unfold SIDE
  pointwise

theorem WQN_at (k : Fin 512) (h : Fin 8) (d : Fin 128) : WQN q (ix2 k ⟨128 * h.val + d.val, by omega⟩) = q (ix2 k ⟨h.val * 192 + d.val, by omega⟩) := by
  unfold WQN
  rw [SIDE_at]
  unfold HEADS
  pointwise
  done

theorem WQR_at (k : Fin 512) (h : Fin 8) (d : Fin 128) : WQR q (ix2 k ⟨128 * h.val + d.val, by omega⟩) = padded (fun e => q (ix2 k ⟨h.val * 192 + (128 + e.val), by omega⟩)) d := by
  unfold WQR
  rw [SIDE_at, PAD3_at]
  simp only [HTAIL_at]

theorem WQS_at (k : Fin 512) (h : Fin 8) (d : Fin 128) : WQS q (ix2 k ⟨128 * h.val + d.val, by omega⟩) = padded (fun e => q (ix2 k ⟨h.val * 192 + (128 + (sw e).val), by omega⟩)) d := by
  unfold WQS
  rw [SIDE_at, PAD3_at]
  simp only [SW3_at, HTAIL_at]

theorem WKN_at (k : Fin 512) (h : Fin 8) (d : Fin 128) : WKN v (ix2 k ⟨128 * h.val + d.val, by omega⟩) = v (ix2 k ⟨h.val * 256 + d.val, by omega⟩) := by
  unfold WKN
  rw [SIDE_at]
  pointwise
  done

theorem WV_at (k : Fin 512) (h : Fin 8) (d : Fin 128) : WV v (ix2 k ⟨128 * h.val + d.val, by omega⟩) = v (ix2 k ⟨h.val * 256 + (128 + d.val), by omega⟩) := by
  unfold WV
  rw [SIDE_at]
  pointwise
  done
end

section
variable (x : FVec Ideal S64 .f32) (g : FVec Ideal S192 .f32)

/-- The gains of a head's last 64 columns, halves swapped, and zeros added. -/
def GTAIL : FVec Ideal S64 .f32 := extractStridedSlice S64 ![128] g slices_S192_S64_128
def SW1 : FVec Ideal S64 .f32 := concatenate S64 0 [⟨S32, extractStridedSlice S32 ![32] x slices_S64_S32_32⟩, ⟨S32, extractStridedSlice S32 ![0] x slices_S64_S32_0⟩] concatenates_S32_S32_S64_d0
def PAD1 : FVec Ideal S1x128 .f32 := broadcastInDim S1x128 ![1] bcast_S128_S1x128_1 (pad S128 ![0] ![64] ![0] x ZERO pads_S64_S128_0640 h_S_)

theorem GTAIL_at (d : Fin 64) : GTAIL g (ix1 d) = last (fun k => g (ix1 k)) d := by
  unfold GTAIL last
  pointwise
  done

theorem SW1_at (d : Fin 64) : SW1 x (ix1 d) = x (ix1 (sw d)) := by
  unfold SW1 sw
  pointwise
  by_cases hd : d.val < 32
  · simp only [dif_pos hd]
  · simp only [dif_neg hd]

theorem PAD1_at (d : Fin 128) : PAD1 x (ix2 0 d) = padded (fun e => x (ix1 e)) d := by
  unfold PAD1 padded
  pointwise
  rw [ZERO_at]
end

section
variable (a b : FVec Ideal S16384x32 .f32)

/-- A table of cosines or sines: both halves, and zeros added. -/
def TABLE : FVec Ideal S16384x128 .f32 :=
  pad S16384x128 ![0, 0] ![0, 64] ![0, 0] (concatenate S16384x64 1 [⟨S16384x32, a⟩, ⟨S16384x32, b⟩] concatenates_S16384x32_S16384x32_S16384x64_d1) ZERO pads_S16384x64_S16384x128_000_0640 h_S_

theorem TABLE_at (R : Fin 16384) (d : Fin 64) : TABLE a b (ix2 R ⟨d.val, by omega⟩) = if d.val < 32 then a (ix2 R (an d)) else b (ix2 R (an d)) := by
  unfold TABLE an
  pointwise
  by_cases hd : d.val < 32
  · simp only [dif_pos hd, if_pos hd]
  · simp only [dif_neg hd, if_neg hd]
end

end Cert.Prep.Win

end
-- ==== Proof.PrepJoin.lean ====
/-
  The preparation of the queries, keys and values: one entry that a block stores is the reference's entry, when the block's
  operands hold the arguments' entries.
-/
module

public import proofs.«01_k».proof.Proof.PrepEntry
public import proofs.«01_k».proof.Proof.PrepTerm

@[expose] public section

set_option maxRecDepth 16384

noncomputable section

namespace Cert.Prep.Join

open Cert.Kernel7Ideal Cert.Kernel7Ideal.Gen Idealize.ShloMosaic Idealize.ShloMosaic.TcCoe
open Cert.Prep.Block Cert.Prep.Win
open scoped BigOperators

/-- A product's column that is padded, is the padded product. -/
theorem sum_padded {n : ℕ} (a : Fin n → EReal) (w : Fin n → Fin 64 → EReal) (d : Fin 128) :
    ∑ k, a k * padded (w k) d = padded (fun e => ∑ k, a k * w k e) d := by
  unfold padded
  by_cases h : d.val < 64
  · simp only [h, dif_pos]
  · simp only [h, dif_neg, not_false_eq_true, mul_zero, Finset.sum_const_zero]

theorem padded_lo (u : Fin 64 → EReal) (d : Fin 64) : padded u ⟨d.val, by omega⟩ = u d := by
  unfold padded
  rw [dif_pos d.isLt]

theorem join192_at (W : Fin 8 → FVec Ideal S1x1x512x128 .bf16) (R : Fin 8 → FVec Ideal S1x1x512x64 .bf16) (h : Fin 8) (r : Fin 512) (d : Fin 192) :
    join192 W R (ix4 0 h r d) = if hd : d.val < 128 then W h (ix4 0 0 r ⟨d.val, hd⟩) else R h (ix4 0 0 r ⟨d.val - 128, by omega⟩) := rfl

theorem join256_at (W R : Fin 8 → FVec Ideal S1x1x512x128 .bf16) (h : Fin 8) (r : Fin 512) (d : Fin 256) :
    join256 W R (ix4 0 h r d) = if hd : d.val < 128 then W h (ix4 0 0 r ⟨d.val, hd⟩) else R h (ix4 0 0 r ⟨d.val - 128, by omega⟩) := rfl

/-- The first 128 of 192 gains. -/
theorem gains (x : Vec Ideal S1x192 .f32) (d : Fin 128) : View.ld x (Rect.unit ![0, 0] S1x128.size inb_S1x192_S1x128_0_0) (ix2 0 d) = x (ix2 0 ⟨d.val, by omega⟩) := by
  refine congrArg x ?_
  funext k
  fin_cases k <;> refine Fin.ext ?_ <;> simp [Rect.emb, Rect.unit]

section
variable (x : FVec Ideal S16384x2048 .f32) (g : FVec Ideal S2048 .f32) (w : FVec Ideal S2048x8896 .f32)
variable (qn : FVec Ideal S512 .f32) (wq : FVec Ideal S512x1536 .f32) (kn : FVec Ideal S512 .f32) (wkv : FVec Ideal S512x2048 .f32) (qg kg : FVec Ideal S192 .f32)
variable (x0 : Vec Ideal S1x512x2048 .f32) (x1 : Vec Ideal S1x2048 .f32) (x2 : Vec Ideal S2048x1280 .bf16) (x3 x4 : Vec Ideal S1x512 .f32)
variable (x5 x6 x7 x8 x9 : Vec Ideal S512x1024 .bf16) (x10 : Vec Ideal S1x192 .f32) (x11 x12 : Vec Ideal S1x128 .f32) (x13 : Vec Ideal S1x192 .f32) (x14 x15 : Vec Ideal S1x128 .f32)
variable (x16 x17 : Vec Ideal S512x128 .f32) (R : Fin 16384) (r : Fin 512)

/-- Row `r` of the block's operands holds the arguments' row `R`; the matrices and gains are the host's terms of the arguments. -/
structure Holds : Prop where
  h0 : ∀ k, x0 (ix3 0 r k) = x (ix2 R k)
  h1 : ∀ k, x1 (ix2 0 k) = g (ix1 k)
  h2 : ∀ k j, x2 (ix2 k j) = WMLA w (ix2 k j)
  h3 : ∀ k, x3 (ix2 0 k) = qn (ix1 k)
  h4 : ∀ k, x4 (ix2 0 k) = kn (ix1 k)
  h5 : ∀ k j, x5 (ix2 k j) = WQN wq (ix2 k j)
  h6 : ∀ k j, x6 (ix2 k j) = WQR wq (ix2 k j)
  h7 : ∀ k j, x7 (ix2 k j) = WQS wq (ix2 k j)
  h8 : ∀ k j, x8 (ix2 k j) = WKN wkv (ix2 k j)
  h9 : ∀ k j, x9 (ix2 k j) = WV wkv (ix2 k j)
  h10 : ∀ k, x10 (ix2 0 k) = qg (ix1 k)
  h11 : ∀ k j, x11 (ix2 k j) = PAD1 (GTAIL qg) (ix2 k j)
  h12 : ∀ k j, x12 (ix2 k j) = PAD1 (SW1 (GTAIL qg)) (ix2 k j)
  h13 : ∀ k, x13 (ix2 0 k) = kg (ix1 k)
  h14 : ∀ k j, x14 (ix2 k j) = PAD1 (GTAIL kg) (ix2 k j)
  h15 : ∀ k j, x15 (ix2 k j) = PAD1 (SW1 (GTAIL kg)) (ix2 k j)
  h16 : ∀ j, x16 (ix2 r j) = TABLE (Host.cos Plain.ANG) (Host.cos Plain.ANG) (ix2 R j)
  h17 : ∀ j, x17 (ix2 r j) = TABLE (Host.negf (Host.sin Plain.ANG)) (Host.sin Plain.ANG) (ix2 R j)

end

variable {x : FVec Ideal S16384x2048 .f32} {g : FVec Ideal S2048 .f32} {w : FVec Ideal S2048x8896 .f32}
variable {qn : FVec Ideal S512 .f32} {wq : FVec Ideal S512x1536 .f32} {kn : FVec Ideal S512 .f32} {wkv : FVec Ideal S512x2048 .f32} {qg kg : FVec Ideal S192 .f32}
variable {x0 : Vec Ideal S1x512x2048 .f32} {x1 : Vec Ideal S1x2048 .f32} {x2 : Vec Ideal S2048x1280 .bf16} {x3 x4 : Vec Ideal S1x512 .f32}
variable {x5 x6 x7 x8 x9 : Vec Ideal S512x1024 .bf16} {x10 : Vec Ideal S1x192 .f32} {x11 x12 : Vec Ideal S1x128 .f32} {x13 : Vec Ideal S1x192 .f32} {x14 x15 : Vec Ideal S1x128 .f32}
variable {x16 x17 : Vec Ideal S512x128 .f32} {R : Fin 16384} {r : Fin 512}

variable (H : Holds x g w qn wq kn wkv qg kg x0 x1 x2 x3 x4 x5 x6 x7 x8 x9 x10 x11 x12 x13 x14 x15 x16 x17 R r)
include H

/-- The first 1024 columns of the combined product are the reference's. -/
theorem z_lo (j : Fin 1024) : Z x0 x1 x2 (ix2 r ⟨j.val, by omega⟩) = Plain.Z x g w (ix3 0 R ⟨j.val, by omega⟩) := by
  rw [Z_at, Plain.Z_at]
  simp only [H.h0, H.h1, H.h2, WMLA_lo]

/-- The shared part of the keys, padded. -/
theorem e_at (d : Fin 128) : E x0 x1 x2 (ix2 r d) = padded (fun e => Plain.Z x g w (ix3 0 R ⟨1024 + e.val, by omega⟩)) d := by
  rw [E_at, Z_at]
  simp only [Plain.Z_at, H.h0, H.h1, H.h2, WMLA_e, sum_padded]

/-- The shared part of the keys with its halves swapped, padded. -/
theorem e'_at (d : Fin 128) : E' x0 x1 x2 (ix2 r d) = padded (fun e => Plain.Z x g w (ix3 0 R ⟨1024 + (sw e).val, by omega⟩)) d := by
  rw [E'_at, Z_at]
  simp only [Plain.Z_at, H.h0, H.h1, H.h2, WMLA_s, sum_padded]

/-- A head of the queries: its first part, its last part padded, its last part swapped and padded. -/
theorem qa_at (h : Fin 8) (d : Fin 128) : cut (PQ x0 x1 x2 x3 x5) h (ix2 r d) = Plain.QH (Plain.Z x g w) qn wq (ix4 0 R h ⟨d.val, by omega⟩) := by
  have hz : ∀ k : Fin 512, Z x0 x1 x2 (ix2 r ⟨k.val, by omega⟩) = Plain.Z x g w (ix3 0 R ⟨k.val, by omega⟩) := fun k => z_lo H ⟨k.val, by omega⟩
  rw [cut_at, PQ_at, Plain.QH_at]
  simp only [hz, H.h3, H.h5, WQN_at]

theorem qb_at (h : Fin 8) (d : Fin 128) : cut (PQ x0 x1 x2 x3 x6) h (ix2 r d) = padded (last (fun d => Plain.QH (Plain.Z x g w) qn wq (ix4 0 R h d))) d := by
  have hz : ∀ k : Fin 512, Z x0 x1 x2 (ix2 r ⟨k.val, by omega⟩) = Plain.Z x g w (ix3 0 R ⟨k.val, by omega⟩) := fun k => z_lo H ⟨k.val, by omega⟩
  rw [cut_at, PQ_at]
  simp only [hz, H.h3, H.h6, WQR_at, sum_padded]
  refine congrArg (fun u => padded u d) (funext fun e => ?_)
  simp only [last, Plain.QH_at]

theorem qc_at (h : Fin 8) (d : Fin 128) : cut (PQ x0 x1 x2 x3 x7) h (ix2 r d) = padded (fun e => last (fun d => Plain.QH (Plain.Z x g w) qn wq (ix4 0 R h d)) (sw e)) d := by
  have hz : ∀ k : Fin 512, Z x0 x1 x2 (ix2 r ⟨k.val, by omega⟩) = Plain.Z x g w (ix3 0 R ⟨k.val, by omega⟩) := fun k => z_lo H ⟨k.val, by omega⟩
  rw [cut_at, PQ_at]
  simp only [hz, H.h3, H.h7, WQS_at, sum_padded]
  refine congrArg (fun u => padded u d) (funext fun e => ?_)
  simp only [last, Plain.QH_at]

/-- The factor of a head of the queries. -/
theorem qf_at (h : Fin 8) : QF (cut (PQ x0 x1 x2 x3 x5) h) (cut (PQ x0 x1 x2 x3 x6) h) (ix2 r 0) = fac len192 (fun d => Plain.QH (Plain.Z x g w) qn wq (ix4 0 R h d)) :=
  (QF_at _ _ r).trans (fac_head _ _ _ (qa_at H h) (qb_at H h))

/-- A head of the keys' first part and of the values. -/
theorem ka_at (h : Fin 8) (d : Fin 128) : cut (PK x0 x1 x2 x4 x8) h (ix2 r d) = Plain.KV (Plain.Z x g w) kn wkv (ix4 0 R h ⟨d.val, by omega⟩) := by
  have hz : ∀ k : Fin 512, Z x0 x1 x2 (ix2 r ⟨512 + k.val, by omega⟩) = Plain.Z x g w (ix3 0 R ⟨512 + k.val, by omega⟩) := fun k => z_lo H ⟨512 + k.val, by omega⟩
  rw [cut_at, PK_at, Plain.KV_at]
  simp only [hz, H.h4, H.h8, WKN_at]

theorem va_at (h : Fin 8) (d : Fin 128) : cut (PK x0 x1 x2 x4 x9) h (ix2 r d) = Plain.KV (Plain.Z x g w) kn wkv (ix4 0 R h ⟨128 + d.val, by omega⟩) := by
  have hz : ∀ k : Fin 512, Z x0 x1 x2 (ix2 r ⟨512 + k.val, by omega⟩) = Plain.Z x g w (ix3 0 R ⟨512 + k.val, by omega⟩) := fun k => z_lo H ⟨512 + k.val, by omega⟩
  rw [cut_at, PK_at, Plain.KV_at]
  simp only [hz, H.h4, H.h9, WV_at]

omit H in
theorem kk_lo (R : Fin 16384) (kv : FVec Ideal Cert.Reference7Ideal.S1x16384x8x256 .f32) (t : FVec Ideal Cert.Reference7Ideal.S1x16384x1088 .f32) (h : Fin 8) (d : Fin 128) :
    Plain.KK t kv (ix4 0 R h ⟨d.val, by omega⟩) = kv (ix4 0 R h ⟨d.val, by omega⟩) := by
  rw [Plain.KK_at, dif_pos d.isLt]

omit H in
theorem kk_last (R : Fin 16384) (kv : FVec Ideal Cert.Reference7Ideal.S1x16384x8x256 .f32) (t : FVec Ideal Cert.Reference7Ideal.S1x16384x1088 .f32) (h : Fin 8) (e : Fin 64) :
    last (fun d => Plain.KK t kv (ix4 0 R h d)) e = t (ix3 0 R ⟨1024 + e.val, by omega⟩) := by
  unfold last
  beta_reduce
  rw [Plain.KK_at, dif_neg (by simp only; omega)]
  refine congrArg (fun k => t (ix3 0 R k)) (Fin.ext ?_)
  simp only
  omega

/-- The factor of a head of the keys. -/
theorem kf_at (h : Fin 8) : KF (cut (PK x0 x1 x2 x4 x8) h) (SS x0 x1 x2) (ix2 r 0)
    = fac len192 (fun d => Plain.KK (Plain.Z x g w) (Plain.KV (Plain.Z x g w) kn wkv) (ix4 0 R h d)) := by
  rw [KF_at, SS_at]
  refine fac_head (fun d => Plain.KK (Plain.Z x g w) (Plain.KV (Plain.Z x g w) kn wkv) (ix4 0 R h d)) _ _ (fun d => ?_) (fun d => ?_)
  · rw [ka_at H, kk_lo]
  · rw [e_at H]
    exact congrArg (fun u => padded u d) (funext fun e => (kk_last R _ _ h e).symm)

/-- The cosines and the signed sines of a row. -/
theorem cs_at (e : Fin 64) : x16 (ix2 r ⟨e.val, by omega⟩) = Host.cos Plain.ANG (ix2 R (an e)) := by
  rw [H.h16, TABLE_at, ite_self]

theorem sn_at (e : Fin 64) : x17 (ix2 r ⟨e.val, by omega⟩) = if e.val < 32 then -(Host.sin Plain.ANG (ix2 R (an e)) : EReal) else Host.sin Plain.ANG (ix2 R (an e)) := by
  rw [H.h17, TABLE_at]
  rfl

/-- A stored entry of the queries is the reference's. -/
theorem q_at (h : Fin 8) (d : Fin 192) :
    join192 (fun h => QN (cut (PQ x0 x1 x2 x3 x5) h) (QF (cut (PQ x0 x1 x2 x3 x5) h) (cut (PQ x0 x1 x2 x3 x6) h)) (View.ld x10 (Rect.unit ![0, 0] S1x128.size inb_S1x192_S1x128_0_0)))
        (fun h => QR (cut (PQ x0 x1 x2 x3 x6) h) (cut (PQ x0 x1 x2 x3 x7) h) (QF (cut (PQ x0 x1 x2 x3 x5) h) (cut (PQ x0 x1 x2 x3 x6) h)) x16 x17 x11 x12) (ix4 0 h r d)
      = Plain.RQ x g w qn wq qg (ix4 0 h R d) := by
  unfold Plain.RQ
  rw [Plain.QO_at, Plain.RP_at, join192_at]
  simp only [Plain.HN_at]
  unfold rope
  by_cases hd : d.val < 128
  · rw [dif_pos hd, dif_pos hd, QN_at, qa_at H, qf_at H, gains, H.h10]
    rfl
  · rw [dif_neg hd, dif_neg hd, QR_at, qf_at H]
    refine congrArg (fun a : EReal => a * scale) ?_
    refine rot_head (fun d => Plain.QH (Plain.Z x g w) qn wq (ix4 0 R h d)) (fun k => qg (ix1 k)) (fun k => Host.cos Plain.ANG (ix2 R k)) (fun k => Host.sin Plain.ANG (ix2 R k)) _
      ⟨d.val - 128, by omega⟩ _ _ _ _ _ _ ?_ ?_ ?_ ?_ (cs_at H ⟨d.val - 128, by omega⟩) (sn_at H ⟨d.val - 128, by omega⟩)
    · exact (qb_at H h _).trans (padded_lo _ ⟨d.val - 128, by omega⟩)
    · exact (qc_at H h _).trans (padded_lo _ ⟨d.val - 128, by omega⟩)
    · exact (H.h11 _ _).trans ((PAD1_at _ _).trans ((padded_lo _ ⟨d.val - 128, by omega⟩).trans (GTAIL_at _ _)))
    · exact (H.h12 _ _).trans ((PAD1_at _ _).trans ((padded_lo _ ⟨d.val - 128, by omega⟩).trans ((SW1_at _ _).trans (GTAIL_at _ _))))

/-- A stored entry of the keys is the reference's. -/
theorem k_at (h : Fin 8) (d : Fin 192) :
    join192 (fun h => KN (cut (PK x0 x1 x2 x4 x8) h) (KF (cut (PK x0 x1 x2 x4 x8) h) (SS x0 x1 x2)) (View.ld x13 (Rect.unit ![0, 0] S1x128.size inb_S1x192_S1x128_0_0)))
        (fun h => KR (E x0 x1 x2) (E' x0 x1 x2) (KF (cut (PK x0 x1 x2 x4 x8) h) (SS x0 x1 x2)) x16 x17 x14 x15) (ix4 0 h r d)
      = Plain.RK x g w kn wkv kg (ix4 0 h R d) := by
  unfold Plain.RK
  rw [Plain.KO_at, Plain.RP_at, join192_at]
  simp only [Plain.HN_at]
  unfold rope
  by_cases hd : d.val < 128
  · rw [dif_pos hd, dif_pos hd, KN_at, ka_at H, kf_at H, gains, H.h13, ← kk_lo R (Plain.KV (Plain.Z x g w) kn wkv) (Plain.Z x g w)]
    rfl
  · rw [dif_neg hd, dif_neg hd, KR_at, kf_at H]
    refine rot_head (fun d => Plain.KK (Plain.Z x g w) (Plain.KV (Plain.Z x g w) kn wkv) (ix4 0 R h d)) (fun k => kg (ix1 k)) (fun k => Host.cos Plain.ANG (ix2 R k)) (fun k => Host.sin Plain.ANG (ix2 R k)) _
      ⟨d.val - 128, by omega⟩ _ _ _ _ _ _ ?_ ?_ ?_ ?_ (cs_at H ⟨d.val - 128, by omega⟩) (sn_at H ⟨d.val - 128, by omega⟩)
    · exact (e_at H _).trans ((padded_lo _ ⟨d.val - 128, by omega⟩).trans (kk_last R _ _ h _).symm)
    · exact (e'_at H _).trans ((padded_lo _ ⟨d.val - 128, by omega⟩).trans (kk_last R _ _ h _).symm)
    · exact (H.h14 _ _).trans ((PAD1_at _ _).trans ((padded_lo _ ⟨d.val - 128, by omega⟩).trans (GTAIL_at _ _)))
    · exact (H.h15 _ _).trans ((PAD1_at _ _).trans ((padded_lo _ ⟨d.val - 128, by omega⟩).trans ((SW1_at _ _).trans (GTAIL_at _ _))))

/-- A stored entry of the values is the reference's. -/
theorem v_at (h : Fin 8) (d : Fin 256) :
    join256 (fun h => VN (cut (PK x0 x1 x2 x4 x9) h)) (fun _ => k0_pay33 k0_pay17) (ix4 0 h r d) = Plain.RV x g w kn wkv (ix4 0 h R d) := by
  unfold Plain.RV
  rw [Plain.VO_at, join256_at]
  by_cases hd : d.val < 128
  · rw [dif_pos hd, dif_pos hd, VN_at, va_at H]
  · rw [dif_neg hd, dif_neg hd, ones_at, one_words]

end Cert.Prep.Join

end
-- ==== Proof.PrepHost.lean ====
/-
  The preparation of the queries, keys and values: what the arrays made of the arguments are, entry by entry.
-/
module

public import proofs.«01_k».proof.Proof.PrepTerm
public import proofs.«01_k».proof.Proof.PrepFrame
public import Idealize.ShloMosaic.Lib.Pipeline.ValueKit
public import Idealize.ShloMosaic.Lib.Pipeline.ReadBack

@[expose] public section

set_option maxRecDepth 16384

noncomputable section

namespace Cert.Prep.Win

open Cert.Kernel7Ideal Cert.Kernel7Ideal.Gen Idealize.ShloMosaic Idealize.ShloMosaic.TcCoe
open Idealize.ShloMosaic.Pipeline (Dat)
open scoped BigOperators

variable (m : (ℓ : Loc nD τ sig) → Buf (Elt Ideal) ℓ) (c : Dev nD)

theorem V10 : V m c main_v10 = WMLA (m ((c : Thread nD τ).loc main_arg2)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  rfl

theorem V14 : V m c main_v14 = WQN (m ((c : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V24 : V m c main_v24 = WQR (m ((c : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V21 : V m c main_v21 = WQS (m ((c : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V28 : V m c main_v28 = WKN (m ((c : Thread nD τ).loc main_arg6)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V31 : V m c main_v31 = WV (m ((c : Thread nD τ).loc main_arg6)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V34 : V m c main_v34 = PAD1 (GTAIL (m ((c : Thread nD τ).loc main_arg7))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V40 : V m c main_v40 = PAD1 (SW1 (GTAIL (m ((c : Thread nD τ).loc main_arg7)))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V43 : V m c main_v43 = PAD1 (GTAIL (m ((c : Thread nD τ).loc main_arg8))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V49 : V m c main_v49 = PAD1 (SW1 (GTAIL (m ((c : Thread nD τ).loc main_arg8)))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V69 : V m c main_v69 = TABLE (Host.cos Plain.ANG) (Host.cos Plain.ANG) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

theorem V72 : V m c main_v72 = TABLE (Host.negf (Host.sin Plain.ANG)) (Host.sin Plain.ANG) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  after_results_loop
  rfl

end Cert.Prep.Win

end
-- ==== Proof.PrepWin.lean ====
/-
  The preparation of the queries, keys and values: what the blocks of the windows hold, entry by entry.
-/
module

public import proofs.«01_k».proof.Proof.PrepHost
public import Idealize.ShloMosaic.Lib.Pipeline.ValueKit
public import Idealize.ShloMosaic.Lib.Pipeline.ReadBack

@[expose] public section

set_option maxRecDepth 16384

noncomputable section

namespace Cert.Prep.Win

open Cert.Kernel7Ideal Cert.Kernel7Ideal.Gen Cert.Kernel7Ideal.Prep Idealize.ShloMosaic Idealize.ShloMosaic.TcCoe
open Idealize.ShloMosaic.Pipeline (Dat)
open scoped BigOperators

variable (m : (ℓ : Loc nD τ sig) → Buf (Elt Ideal) ℓ) (c : Dev nD)

/-- Each window's block at a grid point. -/
theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![t.val, 0] ∧ win0_17.index t = ![t.val, 0]
    ∧ win0_18.index t = ![0, 0, t.val, 0] ∧ win0_19.index t = ![0, 0, t.val, 0] ∧ win0_20.index t = ![0, 0, t.val, 0] :=
  (by decide +kernel : ∀ t : Fin grid0.N, _)

theorem t_lt (t : Fin cfg0.N) : t.val < 32 := t.isLt

/-- The row of the arrays that is row `r` of block `t`. -/
def row (t : Fin cfg0.N) (r : Fin 512) : Fin 16384 := ⟨512 * t.val + r.val, by have := t_lt t; omega⟩

theorem x0_at (t : Fin cfg0.N) (r : Fin 512) (k : Fin 2048) : iblk m c 0 t (ix3 0 r k) = m ((c : Thread nD τ).loc main_arg0) (ix2 (row t r) k) := by
  have h : iblk m c 0 t (ix3 0 r k) = V m c main_v73 (ix3 0 (row t r) k) := by
    unfold row
    blk_point [iblk, idx t]
  rw [h]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  pointwise

theorem x1_at (t : Fin cfg0.N) (k : Fin 2048) : iblk m c 1 t (ix2 0 k) = m ((c : Thread nD τ).loc main_arg1) (ix1 k) := by
  have h : iblk m c 1 t (ix2 0 k) = V m c main_v74 (ix2 0 k) := by
    blk_point [iblk, idx t]
  rw [h]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  pointwise

theorem x3_at (t : Fin cfg0.N) (k : Fin 512) : iblk m c 3 t (ix2 0 k) = m ((c : Thread nD τ).loc main_arg3) (ix1 k) := by
  have h : iblk m c 3 t (ix2 0 k) = V m c main_v75 (ix2 0 k) := by
    blk_point [iblk, idx t]
  rw [h]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  pointwise

theorem x4_at (t : Fin cfg0.N) (k : Fin 512) : iblk m c 4 t (ix2 0 k) = m ((c : Thread nD τ).loc main_arg5) (ix1 k) := by
  have h : iblk m c 4 t (ix2 0 k) = V m c main_v76 (ix2 0 k) := by
    blk_point [iblk, idx t]
  rw [h]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  pointwise

theorem x10_at (t : Fin cfg0.N) (k : Fin 192) : iblk m c 10 t (ix2 0 k) = m ((c : Thread nD τ).loc main_arg7) (ix1 k) := by
  have h : iblk m c 10 t (ix2 0 k) = V m c main_v77 (ix2 0 k) := by
    blk_point [iblk, idx t]
  rw [h]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  pointwise

theorem x13_at (t : Fin cfg0.N) (k : Fin 192) : iblk m c 13 t (ix2 0 k) = m ((c : Thread nD τ).loc main_arg8) (ix1 k) := by
  have h : iblk m c 13 t (ix2 0 k) = V m c main_v78 (ix2 0 k) := by
    blk_point [iblk, idx t]
  rw [h]
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  pointwise

theorem x2_at (t : Fin cfg0.N) (k : Fin 2048) (j : Fin 1280) : iblk m c 2 t (ix2 k j) = WMLA (m ((c : Thread nD τ).loc main_arg2)) (ix2 k j) := by
  rw [← V10]
  blk_point [iblk, idx t]

theorem x5_at (t : Fin cfg0.N) (k : Fin 512) (j : Fin 1024) : iblk m c 5 t (ix2 k j) = WQN (m ((c : Thread nD τ).loc main_arg4)) (ix2 k j) := by
  rw [← V14]
  blk_point [iblk, idx t]

theorem x6_at (t : Fin cfg0.N) (k : Fin 512) (j : Fin 1024) : iblk m c 6 t (ix2 k j) = WQR (m ((c : Thread nD τ).loc main_arg4)) (ix2 k j) := by
  rw [← V24]
  blk_point [iblk, idx t]

theorem x7_at (t : Fin cfg0.N) (k : Fin 512) (j : Fin 1024) : iblk m c 7 t (ix2 k j) = WQS (m ((c : Thread nD τ).loc main_arg4)) (ix2 k j) := by
  rw [← V21]
  blk_point [iblk, idx t]

theorem x8_at (t : Fin cfg0.N) (k : Fin 512) (j : Fin 1024) : iblk m c 8 t (ix2 k j) = WKN (m ((c : Thread nD τ).loc main_arg6)) (ix2 k j) := by
  rw [← V28]
  blk_point [iblk, idx t]

theorem x9_at (t : Fin cfg0.N) (k : Fin 512) (j : Fin 1024) : iblk m c 9 t (ix2 k j) = WV (m ((c : Thread nD τ).loc main_arg6)) (ix2 k j) := by
  rw [← V31]
  blk_point [iblk, idx t]

theorem x11_at (t : Fin cfg0.N) (k : Fin 1) (j : Fin 128) : iblk m c 11 t (ix2 k j) = PAD1 (GTAIL (m ((c : Thread nD τ).loc main_arg7))) (ix2 k j) := by
  rw [← V34]
  blk_point [iblk, idx t]

theorem x12_at (t : Fin cfg0.N) (k : Fin 1) (j : Fin 128) : iblk m c 12 t (ix2 k j) = PAD1 (SW1 (GTAIL (m ((c : Thread nD τ).loc main_arg7)))) (ix2 k j) := by
  rw [← V40]
  blk_point [iblk, idx t]

theorem x14_at (t : Fin cfg0.N) (k : Fin 1) (j : Fin 128) : iblk m c 14 t (ix2 k j) = PAD1 (GTAIL (m ((c : Thread nD τ).loc main_arg8))) (ix2 k j) := by
  rw [← V43]
  blk_point [iblk, idx t]

theorem x15_at (t : Fin cfg0.N) (k : Fin 1) (j : Fin 128) : iblk m c 15 t (ix2 k j) = PAD1 (SW1 (GTAIL (m ((c : Thread nD τ).loc main_arg8)))) (ix2 k j) := by
  rw [← V49]
  blk_point [iblk, idx t]

theorem x16_at (t : Fin cfg0.N) (r : Fin 512) (j : Fin 128) : iblk m c 16 t (ix2 r j) = TABLE (Host.cos Plain.ANG) (Host.cos Plain.ANG) (ix2 (row t r) j) := by
  rw [← V69 m c]
  unfold row
  blk_point [iblk, idx t]

theorem x17_at (t : Fin cfg0.N) (r : Fin 512) (j : Fin 128) : iblk m c 17 t (ix2 r j) = TABLE (Host.negf (Host.sin Plain.ANG)) (Host.sin Plain.ANG) (ix2 (row t r) j) := by
  rw [← V72 m c]
  unfold row
  blk_point [iblk, idx t]

end Cert.Prep.Win

end
-- ==== Proof.PrepFinal.lean ====
/-
  The preparation of the queries, keys and values: the arrays of the queries and keys are the reference's terms of the arguments.
-/
module

public import proofs.«01_k».proof.Proof.PrepStoreQ
public import proofs.«01_k».proof.Proof.PrepStoreK
public import proofs.«01_k».proof.Proof.PrepStoreV
public import proofs.«01_k».proof.Proof.PrepJoin
public import proofs.«01_k».proof.Proof.PrepWin

@[expose] public section

set_option maxRecDepth 16384

noncomputable section

namespace Cert.Prep

open Cert.Kernel7Ideal Cert.Kernel7Ideal.Gen Cert.Kernel7Ideal.Prep Idealize.ShloMosaic Idealize.ShloMosaic.TcCoe
open Idealize.ShloMosaic.Pipeline (Dat)
open Cert.Prep.Win
open scoped BigOperators

variable (m : (ℓ : Loc nD τ sig) → Buf (Elt Ideal) ℓ) (c : Dev nD)

/-- The windows' blocks hold the arguments' entries. -/
theorem holds (t : Fin cfg0.N) (r : Fin 512) : Join.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (row t r) r :=
  ⟨x0_at m c t r, x1_at m c t, x2_at m c t, x3_at m c t, x4_at m c t, x5_at m c t, x6_at m c t, x7_at m c t, x8_at m c t, x9_at m c t, x10_at m c t,
    x11_at m c t, x12_at m c t, x13_at m c t, x14_at m c t, x15_at m c t, x16_at m c t r, x17_at m c t r⟩

/-- THE ARRAY OF THE QUERIES is the reference's term of the arguments. -/
theorem final_q : (dats m 0 c).arrAt 18 (cfgs 0).N = Plain.RQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 18 _ (by decide +kernel) fun t _ y => ?_
  blk_simp
  rw [after0_18]
  obtain ⟨h, r, d, rfl⟩ : ∃ (h : Fin 8) (r : Fin 512) (d : Fin 192), y = ix4 0 h r d :=
    ⟨y 1, y 2, y 3, by funext k; fin_cases k <;> first | exact Subsingleton.elim (α := Fin 1) _ _ | rfl⟩
  have he : (win0_18.blk t).view.emb (ix4 0 h r d) = ix4 0 h (row t r) d := by
    unfold row
    blk_ext [idx t]
  rw [he]
  unfold outsAt0 out18
  dsimp only
  rw [View.read_writes_junk_eq_canon]
  refine (Block.run18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  exact Join.q_at (holds m c t r) h d

/-- THE ARRAY OF THE KEYS is the reference's term of the arguments. -/
theorem final_k : (dats m 0 c).arrAt 19 (cfgs 0).N = Plain.RK (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) := by
  refine (dats m 0 c).arrAt_eq_of_covers 19 _ (by decide +kernel) fun t _ y => ?_
  blk_simp
  rw [after0_19]
  obtain ⟨h, r, d, rfl⟩ : ∃ (h : Fin 8) (r : Fin 512) (d : Fin 192), y = ix4 0 h r d :=
    ⟨y 1, y 2, y 3, by funext k; fin_cases k <;> first | exact Subsingleton.elim (α := Fin 1) _ _ | rfl⟩
  have he : (win0_19.blk t).view.emb (ix4 0 h r d) = ix4 0 h (row t r) d := by
    unfold row
    blk_ext [idx t]
  rw [he]
  unfold outsAt0 out19
  dsimp only
  rw [View.read_writes_junk_eq_canon]
  refine (Block.run19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  exact Join.k_at (holds m c t r) h d

end Cert.Prep

end
-- ==== Proof.PrepFinalV.lean ====
/-
  The preparation of the queries, keys and values: the array of the values is the reference's term of the arguments.
-/
module

public import proofs.«01_k».proof.Proof.PrepFinal

@[expose] public section

set_option maxRecDepth 16384

noncomputable section

namespace Cert.Prep

open Cert.Kernel7Ideal Cert.Kernel7Ideal.Gen Cert.Kernel7Ideal.Prep Idealize.ShloMosaic Idealize.ShloMosaic.TcCoe
open Idealize.ShloMosaic.Pipeline (Dat)
open Cert.Prep.Win
open scoped BigOperators

variable (m : (ℓ : Loc nD τ sig) → Buf (Elt Ideal) ℓ) (c : Dev nD)

/-- What a block leaves in the staging buffer of the values. -/
theorem left20 (t : Fin cfg0.N) : (outsAt0 m c t).2.2 = Block.join256 (fun h => Block.VN (Block.cut (Block.PK (iblk m c 0 t) (iblk m c 1 t) (iblk m c 2 t) (iblk m c 4 t) (iblk m c 9 t)) h)) (fun _ => k0_pay33 k0_pay17) := by
  funext y
  unfold outsAt0 out20
  dsimp only
  rw [View.read_writes_junk_eq_canon]
  exact Block.run20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- THE ARRAY OF THE VALUES is the reference's term of the arguments. -/
theorem final_v : (dats m 0 c).arrAt 20 (cfgs 0).N = Plain.RV (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 20 _ (by decide +kernel) fun t _ y => ?_
  blk_simp
  rw [after0_20]
  obtain ⟨h, r, d, rfl⟩ : ∃ (h : Fin 8) (r : Fin 512) (d : Fin 256), y = ix4 0 h r d :=
    ⟨y 1, y 2, y 3, by funext k; fin_cases k <;> first | exact Subsingleton.elim (α := Fin 1) _ _ | rfl⟩
  have he : (win0_20.blk t).view.emb (ix4 0 h r d) = ix4 0 h (row t r) d := by
    unfold row
    blk_ext [idx t]
  rw [he]
  have hv := Join.v_at (holds m c t r) h d
  rw [← hv]
  exact (congrFun (left20 m c t) _)

end Cert.Prep

end
-- ==== Proof.lean ====
/-
  The certificate: the attention and the call that prepares its operands, both feed-forward calls, two of the input
  projections and the merge of the mixers, each with its plain reference,
  run and leave their arguments as they were, and the results are the same arrays; the attention's where every query and
  key is finite, the others' everywhere.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame.Runs
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame.Runs
public import proofs.«01_k».proof.Proof.Gen.Reference7Ideal
public import proofs.«01_k».proof.Proof.Gen.Reference7Ideal.Run
public import proofs.«01_k».proof.Proof.Final
public import proofs.«01_k».proof.Proof.Ffn2Ref
public import proofs.«01_k».proof.Proof.Proj
public import proofs.«01_k».proof.Proof.Merge
public import proofs.«01_k».proof.Proof.PrepFrameBits
public import proofs.«01_k».proof.Proof.PrepFinalV
public import Idealize.ShloMosaic.Adequacy
public import Idealize.ShloMosaic.Init

@[expose] public section

set_option maxRecDepth 16384

noncomputable section

namespace Cert.Proof

open Idealize.ShloMosaic Idealize.SL.Sem Cert.Kernel

/-- Where every query and key is finite the kernel's result is the reference's. -/
theorem value : Cert.algebraic_KernelIdeal_ReferenceIdeal (hKernelIdeal := Cert.KernelIdeal.Gen.facts)
    (hReferenceIdeal := Cert.ReferenceIdeal.Gen.facts) (hPre_finite := Cert.Attn.preFacts) := by
  intro m g m' g' hpre hm
  refine ⟨fun c => (Cert.KernelIdeal.Gen.dats m 0 c).arrAt 3 Cert.KernelIdeal.cfg0.N,
    Cert.KernelIdeal.Value.run_blocks m g, (θ_run Cert.ReferenceIdeal.defs _ _).mono (fun r h c => ⟨?_, (h c).2⟩)
      (Cert.ReferenceIdeal.Value.run m' g')⟩
  refine (h c).1.trans (Eq.trans ?_ (Cert.Attn.final m c (hpre c)).symm)
  rw [← (hm c).1, ← (hm c).2.1, ← (hm c).2.2]
  rfl

/-- The reference declares no semaphore and writes none of its arguments. -/
theorem frame_r : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The second feed-forward layer with the closing norm: the kernel's result is the reference's. -/
theorem value2 : Cert.algebraic_Kernel2Ideal_Reference2Ideal (hKernel2Ideal := Cert.Kernel2Ideal.Gen.facts)
    (hReference2Ideal := Cert.Reference2Ideal.Gen.facts) := by
  intro m g m' g' _ hm
  refine ⟨fun c => (Cert.Kernel2Ideal.Gen.dats m 0 c).arrAt 6 Cert.Kernel2Ideal.cfg0.N,
    Cert.Kernel2Ideal.Value.run_blocks m g, (θ_run Cert.Reference2Ideal.defs _ _).mono (fun r h c => ⟨?_, (h c).2⟩)
      (Cert.Reference2Ideal.Value.run m' g')⟩
  refine (h c).1.trans (Eq.trans ?_ (Cert.Ffn2.final m c).symm)
  rw [← (hm c).1, ← (hm c).2.1, ← (hm c).2.2.1, ← (hm c).2.2.2.1, ← (hm c).2.2.2.2]
  rfl

/-- Its reference declares no semaphore and writes none of its arguments. -/
theorem frame_r2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The first feed-forward layer: the kernel's result is the reference's. -/
theorem value3 : Cert.algebraic_Kernel3Ideal_Reference3Ideal (hKernel3Ideal := Cert.Kernel3Ideal.Gen.facts)
    (hReference3Ideal := Cert.Reference3Ideal.Gen.facts) := by
  intro m g m' g' _ hm
  refine ⟨fun c => (Cert.Kernel3Ideal.Gen.dats m 0 c).arrAt 5 Cert.Kernel3Ideal.cfg0.N,
    Cert.Kernel3Ideal.Value.run_blocks m g, (θ_run Cert.Reference3Ideal.defs _ _).mono (fun r h c => ⟨?_, (h c).2⟩)
      (Cert.Reference3Ideal.Value.run m' g')⟩
  refine (h c).1.trans (Eq.trans ?_ (Cert.Ffn1.final m c).symm)
  rw [← (hm c).1, ← (hm c).2.1, ← (hm c).2.2.1, ← (hm c).2.2.2]
  rfl

/-- Its reference declares no semaphore and writes none of its arguments. -/
theorem frame_r3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The gates: the kernel's result is the reference's. -/
theorem value4 : Cert.algebraic_Kernel4Ideal_Reference4Ideal (hKernel4Ideal := Cert.Kernel4Ideal.Gen.facts)
    (hReference4Ideal := Cert.Reference4Ideal.Gen.facts) := by
  intro m g m' g' _ hm
  refine ⟨fun c => (Cert.Kernel4Ideal.Gen.dats m 0 c).arrAt 3 Cert.Kernel4Ideal.cfg0.N,
    Cert.Kernel4Ideal.Value.run_blocks m g, (θ_run Cert.Reference4Ideal.defs _ _).mono (fun r h c => ⟨?_, (h c).2⟩)
      (Cert.Reference4Ideal.Value.run m' g')⟩
  refine (h c).1.trans (Eq.trans ?_ (Cert.Proj.Gate.final m c).symm)
  rw [← (hm c).1, ← (hm c).2.1, ← (hm c).2.2]
  rfl

/-- Its reference declares no semaphore and writes none of its arguments. -/
theorem frame_r4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The recurrence's projection: the kernel's result is the reference's. -/
theorem value5 : Cert.algebraic_Kernel5Ideal_Reference5Ideal (hKernel5Ideal := Cert.Kernel5Ideal.Gen.facts)
    (hReference5Ideal := Cert.Reference5Ideal.Gen.facts) := by
  intro m g m' g' _ hm
  refine ⟨fun c => (Cert.Kernel5Ideal.Gen.dats m 0 c).arrAt 3 Cert.Kernel5Ideal.cfg0.N,
    Cert.Kernel5Ideal.Value.run_blocks m g, (θ_run Cert.Reference5Ideal.defs _ _).mono (fun r h c => ⟨?_, (h c).2⟩)
      (Cert.Reference5Ideal.Value.run m' g')⟩
  refine (h c).1.trans (Eq.trans ?_ (Cert.Proj.Rwkv.final m c).symm)
  rw [← (hm c).1, ← (hm c).2.1, ← (hm c).2.2]
  rfl

/-- Its reference declares no semaphore and writes none of its arguments. -/
theorem frame_r5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The merge of the two mixers: the kernel's result is the reference's. -/
theorem value6 : Cert.algebraic_Kernel6Ideal_Reference6Ideal (hKernel6Ideal := Cert.Kernel6Ideal.Gen.facts)
    (hReference6Ideal := Cert.Reference6Ideal.Gen.facts) := by
  intro m g m' g' _ hm
  refine ⟨fun c => (Cert.Kernel6Ideal.Gen.dats m 0 c).arrAt 13 Cert.Kernel6Ideal.cfg0.N,
    Cert.Kernel6Ideal.Value.run_blocks m g, (θ_run Cert.Reference6Ideal.defs _ _).mono (fun r h c => ⟨?_, (h c).2⟩)
      (Cert.Reference6Ideal.Value.run m' g')⟩
  refine (h c).1.trans (Eq.trans ?_ (Cert.Merge.final m c).symm)
  obtain ⟨h0, h1, h2, h3, h4, h5, h6, h7, h8, h9, h10, h11⟩ := hm c
  rw [← h0, ← h1, ← h2, ← h3, ← h4, ← h5, ← h6, ← h7, ← h8, ← h9, ← h10, ← h11]
  rfl

/-- Its reference declares no semaphore and writes none of its arguments. -/
theorem frame_r6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- The preparation of the attention's queries, keys and values: the kernel's three results are the reference's. -/
theorem value7 : Cert.algebraic_Kernel7Ideal_Reference7Ideal (hKernel7Ideal := Cert.Kernel7Ideal.Gen.facts)
    (hReference7Ideal := Cert.Reference7Ideal.Gen.facts) := by
  intro m g m' g' _ hm
  refine ⟨fun c => (Cert.Kernel7Ideal.Prep.dats m 0 c).arrAt 18 Cert.Kernel7Ideal.cfg0.N,
    fun c => (Cert.Kernel7Ideal.Prep.dats m 0 c).arrAt 19 Cert.Kernel7Ideal.cfg0.N,
    fun c => (Cert.Kernel7Ideal.Prep.dats m 0 c).arrAt 20 Cert.Kernel7Ideal.cfg0.N,
    Cert.Kernel7Ideal.Prep.run_blocks m g, (θ_run Cert.Reference7Ideal.defs _ _).mono
      (fun r h c => ⟨?_, ?_, ?_, (h c).2.2.2⟩) (Cert.Reference7Ideal.Value.run m' g')⟩
  · refine (h c).1.trans ((Cert.Prep.Plain.res_q m' c).trans (Eq.trans ?_ (Cert.Prep.final_q m c).symm))
    obtain ⟨h0, h1, h2, h3, h4, h5, h6, h7, h8⟩ := hm c
    rw [← h0, ← h1, ← h2, ← h3, ← h4, ← h7]
  · refine (h c).2.1.trans ((Cert.Prep.Plain.res_k m' c).trans (Eq.trans ?_ (Cert.Prep.final_k m c).symm))
    obtain ⟨h0, h1, h2, h3, h4, h5, h6, h7, h8⟩ := hm c
    rw [← h0, ← h1, ← h2, ← h5, ← h6, ← h8]
  · refine (h c).2.2.1.trans ((Cert.Prep.Plain.res_v m' c).trans (Eq.trans ?_ (Cert.Prep.final_v m c).symm))
    obtain ⟨h0, h1, h2, h3, h4, h5, h6, h7, h8⟩ := hm c
    rw [← h0, ← h1, ← h2, ← h5, ← h6]

/-- Its reference declares no semaphore and writes none of its arguments. -/
theorem frame_r7 : Cert.quiescent_Reference7Ideal (hReference7Ideal := Cert.Reference7Ideal.Gen.facts) := fun m g _ =>
  (θ_run Cert.Reference7Ideal.defs _ _).mono (fun r h => ⟨fun c => (h c).2.2.2, sem_eq_zero_of_no_sems (by decide) r.2⟩)
    (Cert.Reference7Ideal.Value.run (F := Ideal) m g)

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Attn.preFacts,
    fun m g _ => Cert.Kernel.Gen.frame m g, fun m g _ => Cert.Kernel.Gen.frame m g,
    fun m g _ => Cert.KernelIdeal.Gen.frame m g, frame_r, fun m g _ => frame_r m g trivial,
    fun m g _ => Cert.Kernel2.Gen.frame m g, fun m g _ => Cert.Kernel2Ideal.Gen.frame m g, frame_r2,
    fun m g _ => Cert.Kernel3.Gen.frame m g, fun m g _ => Cert.Kernel3Ideal.Gen.frame m g, frame_r3,
    fun m g _ => Cert.Kernel4.Gen.frame m g, fun m g _ => Cert.Kernel4Ideal.Gen.frame m g, frame_r4,
    fun m g _ => Cert.Kernel5.Gen.frame m g, fun m g _ => Cert.Kernel5Ideal.Gen.frame m g, frame_r5,
    fun m g _ => Cert.Kernel6.Gen.frame m g, fun m g _ => Cert.Kernel6Ideal.Gen.frame m g, frame_r6,
    fun m g _ => Cert.Kernel7.Prep.frame m g, fun m g _ => Cert.Kernel7Ideal.Prep.frame m g, frame_r7,
    trivial, value, trivial, value2, trivial, value3, trivial, value4, trivial, value5, trivial, value6,
    trivial, value7⟩

end Cert.Proof

end
